-- ==== Defs.lean ====
def Pre_Kernel [hPre_within : Cert.Pre_within.Facts] (m : (ℓ : Loc Cert.Kernel.nD Cert.Kernel.τ Cert.Kernel.sig) → Buf (Elt Bits) ℓ) : Prop :=
  ∀ c : Dev Cert.Kernel.nD,
    (Cert.Pre_within.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_within : Cert.Pre_within.Facts] (m : (ℓ : Loc Cert.KernelIdeal.nD Cert.KernelIdeal.τ Cert.KernelIdeal.sig) → Buf (Elt Ideal) ℓ) : Prop :=
  ∀ c : Dev Cert.KernelIdeal.nD,
    (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within [hPre_within : Cert.Pre_within.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_within : Cert.Pre_within.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_within [hReferenceIdeal : Cert.ReferenceIdeal.Facts] [hPre_within : Cert.Pre_within.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_within : Cert.Pre_within.Facts),
    quiescent_Kernel (hKernel := hKernel) (hPre_within := hPre_within)
    ∧ quiescent_KernelIdeal (hKernelIdeal := hKernelIdeal) (hPre_within := hPre_within)
    ∧ quiescent_ReferenceIdeal (hReferenceIdeal := hReferenceIdeal)
    ∧ quiescent_ReferenceIdeal_pre_within (hReferenceIdeal := hReferenceIdeal) (hPre_within := hPre_within)
    ∧ preserves_Kernel_KernelIdeal
    ∧ algebraic_KernelIdeal_ReferenceIdeal (hKernelIdeal := hKernelIdeal) (hReferenceIdeal := hReferenceIdeal) (hPre_within := hPre_within)
-- ==== Pre_within.lean ====
abbrev S16x4096x1024 : Shape := ⟨3, ![16, 4096, 1024]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x4096x1024 .f32) (main_arg1 : IVec S16 32) (main_arg2 : IVec S_ 32) : IVec S_ 1 :=
  let main_c : IVec S_ 32 := constantI S_ 32 4096#32
  let main_v0 : IVec S16 32 := broadcastInDim S16 ![] bcast_S_S16 main_c
  let main_v1 : IVec S16 1 := cmpi .sle main_arg1 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S16x4096x1024 : Shape := ⟨3, ![16, 4096, 1024]⟩
abbrev S16 : Shape := ⟨1, ![16]⟩
abbrev S_ : Shape := ⟨0, ![]⟩
abbrev S16x1x1024 : Shape := ⟨3, ![16, 1, 1024]⟩
abbrev S16x1024 : Shape := ⟨2, ![16, 1024]⟩
abbrev S1x1x1024 : Shape := ⟨3, ![1, 1, 1024]⟩
abbrev S256x1024 : Shape := ⟨2, ![256, 1024]⟩
abbrev S1 : Shape := ⟨1, ![1]⟩
abbrev S1x256x1024 : Shape := ⟨3, ![1, 256, 1024]⟩
abbrev S1024 : Shape := ⟨1, ![1024]⟩
abbrev S1x1024 : Shape := ⟨2, ![1, 1024]⟩

abbrev nBuf : Space → Nat
  | .hbm => 4
  | .vmem => 10
  | .smem => 1
  | _ => 0

abbrev bufTy : (tb : Table) → Fin (tcTables nBuf tb) → BufTy
  | .hbm, ⟨0, _⟩ => ⟨S16x4096x1024, .f32⟩
  | .hbm, ⟨1, _⟩ => ⟨S_, .i32⟩
  | .hbm, ⟨2, _⟩ => ⟨S16x1x1024, .f32⟩
  | .hbm, ⟨3, _⟩ => ⟨S16x1024, .f32⟩
  | .local _ .vmem, ⟨0, _⟩ => ⟨S1x1x1024, .f32⟩
  | .local _ .vmem, ⟨1, _⟩ => ⟨S1x1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .smem, ⟨0, _⟩ => ⟨S16, .i32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_call0_v0 : Ref sig .tc := ⟨.hbm, 2, rfl⟩
abbrev main_v0 : Ref sig .tc := ⟨.hbm, 3, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let arg0 : BitVec 32 := BitVec.ofNat 32 (i 0).val
  let c0_i32_30 : BitVec 32 := 0#32
  let c0_i32_31 : BitVec 32 := 0#32
  ![arg0.toNat, 0, 0]
def k0_off3 (i : grid0.Coords) : Fin 3 → Nat :=
  let arg0 : BitVec 32 := BitVec.ofNat 32 (i 0).val
  let c256_i32_30 : BitVec 32 := 256#32
  let c0_i32_31 : BitVec 32 := 0#32
  ![arg0.toNat, 256, 0]
def k0_off4 (i : grid0.Coords) : Fin 3 → Nat :=
  let arg0 : BitVec 32 := BitVec.ofNat 32 (i 0).val
  let c512_i32 : BitVec 32 := 512#32
  let c0_i32_30 : BitVec 32 := 0#32
  ![arg0.toNat, 512, 0]
def k0_off5 (i : grid0.Coords) : Fin 3 → Nat :=
  let arg0 : BitVec 32 := BitVec.ofNat 32 (i 0).val
  let c768_i32 : BitVec 32 := 768#32
  let c0_i32_30 : BitVec 32 := 0#32
  ![arg0.toNat, 768, 0]
def k0_off6 (i : grid0.Coords) : Fin 3 → Nat :=
  let arg0 : BitVec 32 := BitVec.ofNat 32 (i 0).val
  let c1024_i32 : BitVec 32 := 1024#32
  let c0_i32_30 : BitVec 32 := 0#32
  ![arg0.toNat, 1024, 0]
def k0_off7 (i : grid0.Coords) : Fin 3 → Nat :=
  let arg0 : BitVec 32 := BitVec.ofNat 32 (i 0).val
  let c1280_i32 : BitVec 32 := 1280#32
  let c0_i32_30 : BitVec 32 := 0#32
  ![arg0.toNat, 1280, 0]
def k0_off8 (i : grid0.Coords) : Fin 3 → Nat :=
  let arg0 : BitVec 32 := BitVec.ofNat 32 (i 0).val
  let c1536_i32 : BitVec 32 := 1536#32
  let c0_i32_30 : BitVec 32 := 0#32
  ![arg0.toNat, 1536, 0]
@[reducible] def k0_t1_loop (v1 : BitVec 32) : Scf.Loop 32 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_20 : BitVec 32 := 1#32
  ⟨c0_i32_18, v48, c1_i32_20⟩

def k0_cond8 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32 : BitVec 32 := 8#32
  let c0_i32_30 : BitVec 32 := 0#32
  let v55 : BitVec 1 := Scalar.cmpi .eq c8_i32 c0_i32_30
  let c1_i32_31 : BitVec 32 := 1#32
  let v56 : BitVec 32 := Scalar.select v55 c1_i32_31 c8_i32
  let v57 : BitVec 32 := Scalar.remsi arg20 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c0_i32_35 : BitVec 32 := 0#32
  let v65 : BitVec 1 := Scalar.cmpi .eq v64 c0_i32_35
  let v66 : BitVec 32 := Scalar.extui v65
  let c0_i32_36 : BitVec 32 := 0#32
  let v67 : BitVec 1 := Scalar.cmpi .ne v66 c0_i32_36
  v67

def k0_off9 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond9 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off10 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
def k0_cond12 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_37 : BitVec 32 := 8#32
  let c0_i32_38 : BitVec 32 := 0#32
  let v68 : BitVec 1 := Scalar.cmpi .eq c8_i32_37 c0_i32_38
  let c1_i32_39 : BitVec 32 := 1#32
  let v69 : BitVec 32 := Scalar.select v68 c1_i32_39 c8_i32_37
  let v70 : BitVec 32 := Scalar.remsi arg20 v69
  let c0_i32_41 : BitVec 32 := 0#32
  let v72 : BitVec 1 := Scalar.cmpi .slt v70 c0_i32_41
  let c0_i32_42 : BitVec 32 := 0#32
  let v73 : BitVec 1 := Scalar.cmpi .slt v69 c0_i32_42
  let v74 : BitVec 1 := Scalar.xori v72 v73
  let c0_i32_40 : BitVec 32 := 0#32
  let v71 : BitVec 1 := Scalar.cmpi .ne v70 c0_i32_40
  let v75 : BitVec 1 := Scalar.andi v74 v71
  let v76 : BitVec 32 := Scalar.addi v70 v69
  let v77 : BitVec 32 := Scalar.select v75 v76 v70
  let c1_i32_43 : BitVec 32 := 1#32
  let v78 : BitVec 1 := Scalar.cmpi .eq v77 c1_i32_43
  let v79 : BitVec 32 := Scalar.extui v78
  let c0_i32_44 : BitVec 32 := 0#32
  let v80 : BitVec 1 := Scalar.cmpi .ne v79 c0_i32_44
  v80

def k0_off11 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond13 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off12 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
def k0_cond16 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_45 : BitVec 32 := 8#32
  let c0_i32_46 : BitVec 32 := 0#32
  let v81 : BitVec 1 := Scalar.cmpi .eq c8_i32_45 c0_i32_46
  let c1_i32_47 : BitVec 32 := 1#32
  let v82 : BitVec 32 := Scalar.select v81 c1_i32_47 c8_i32_45
  let v83 : BitVec 32 := Scalar.remsi arg20 v82
  let c0_i32_49 : BitVec 32 := 0#32
  let v85 : BitVec 1 := Scalar.cmpi .slt v83 c0_i32_49
  let c0_i32_50 : BitVec 32 := 0#32
  let v86 : BitVec 1 := Scalar.cmpi .slt v82 c0_i32_50
  let v87 : BitVec 1 := Scalar.xori v85 v86
  let c0_i32_48 : BitVec 32 := 0#32
  let v84 : BitVec 1 := Scalar.cmpi .ne v83 c0_i32_48
  let v88 : BitVec 1 := Scalar.andi v87 v84
  let v89 : BitVec 32 := Scalar.addi v83 v82
  let v90 : BitVec 32 := Scalar.select v88 v89 v83
  let c2_i32_51 : BitVec 32 := 2#32
  let v91 : BitVec 1 := Scalar.cmpi .eq v90 c2_i32_51
  let v92 : BitVec 32 := Scalar.extui v91
  let c0_i32_52 : BitVec 32 := 0#32
  let v93 : BitVec 1 := Scalar.cmpi .ne v92 c0_i32_52
  v93

def k0_off13 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond17 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off14 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
def k0_cond20 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_53 : BitVec 32 := 8#32
  let c0_i32_54 : BitVec 32 := 0#32
  let v94 : BitVec 1 := Scalar.cmpi .eq c8_i32_53 c0_i32_54
  let c1_i32_55 : BitVec 32 := 1#32
  let v95 : BitVec 32 := Scalar.select v94 c1_i32_55 c8_i32_53
  let v96 : BitVec 32 := Scalar.remsi arg20 v95
  let c0_i32_57 : BitVec 32 := 0#32
  let v98 : BitVec 1 := Scalar.cmpi .slt v96 c0_i32_57
  let c0_i32_58 : BitVec 32 := 0#32
  let v99 : BitVec 1 := Scalar.cmpi .slt v95 c0_i32_58
  let v100 : BitVec 1 := Scalar.xori v98 v99
  let c0_i32_56 : BitVec 32 := 0#32
  let v97 : BitVec 1 := Scalar.cmpi .ne v96 c0_i32_56
  let v101 : BitVec 1 := Scalar.andi v100 v97
  let v102 : BitVec 32 := Scalar.addi v96 v95
  let v103 : BitVec 32 := Scalar.select v101 v102 v96
  let c3_i32_59 : BitVec 32 := 3#32
  let v104 : BitVec 1 := Scalar.cmpi .eq v103 c3_i32_59
  let v105 : BitVec 32 := Scalar.extui v104
  let c0_i32_60 : BitVec 32 := 0#32
  let v106 : BitVec 1 := Scalar.cmpi .ne v105 c0_i32_60
  v106

def k0_off15 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond21 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off16 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
def k0_cond24 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_61 : BitVec 32 := 8#32
  let c0_i32_62 : BitVec 32 := 0#32
  let v107 : BitVec 1 := Scalar.cmpi .eq c8_i32_61 c0_i32_62
  let c1_i32_63 : BitVec 32 := 1#32
  let v108 : BitVec 32 := Scalar.select v107 c1_i32_63 c8_i32_61
  let v109 : BitVec 32 := Scalar.remsi arg20 v108
  let c0_i32_65 : BitVec 32 := 0#32
  let v111 : BitVec 1 := Scalar.cmpi .slt v109 c0_i32_65
  let c0_i32_66 : BitVec 32 := 0#32
  let v112 : BitVec 1 := Scalar.cmpi .slt v108 c0_i32_66
  let v113 : BitVec 1 := Scalar.xori v111 v112
  let c0_i32_64 : BitVec 32 := 0#32
  let v110 : BitVec 1 := Scalar.cmpi .ne v109 c0_i32_64
  let v114 : BitVec 1 := Scalar.andi v113 v110
  let v115 : BitVec 32 := Scalar.addi v109 v108
  let v116 : BitVec 32 := Scalar.select v114 v115 v109
  let c4_i32_67 : BitVec 32 := 4#32
  let v117 : BitVec 1 := Scalar.cmpi .eq v116 c4_i32_67
  let v118 : BitVec 32 := Scalar.extui v117
  let c0_i32_68 : BitVec 32 := 0#32
  let v119 : BitVec 1 := Scalar.cmpi .ne v118 c0_i32_68
  v119

def k0_off17 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond25 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off18 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
def k0_cond28 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_69 : BitVec 32 := 8#32
  let c0_i32_70 : BitVec 32 := 0#32
  let v120 : BitVec 1 := Scalar.cmpi .eq c8_i32_69 c0_i32_70
  let c1_i32_71 : BitVec 32 := 1#32
  let v121 : BitVec 32 := Scalar.select v120 c1_i32_71 c8_i32_69
  let v122 : BitVec 32 := Scalar.remsi arg20 v121
  let c0_i32_73 : BitVec 32 := 0#32
  let v124 : BitVec 1 := Scalar.cmpi .slt v122 c0_i32_73
  let c0_i32_74 : BitVec 32 := 0#32
  let v125 : BitVec 1 := Scalar.cmpi .slt v121 c0_i32_74
  let v126 : BitVec 1 := Scalar.xori v124 v125
  let c0_i32_72 : BitVec 32 := 0#32
  let v123 : BitVec 1 := Scalar.cmpi .ne v122 c0_i32_72
  let v127 : BitVec 1 := Scalar.andi v126 v123
  let v128 : BitVec 32 := Scalar.addi v122 v121
  let v129 : BitVec 32 := Scalar.select v127 v128 v122
  let c5_i32_75 : BitVec 32 := 5#32
  let v130 : BitVec 1 := Scalar.cmpi .eq v129 c5_i32_75
  let v131 : BitVec 32 := Scalar.extui v130
  let c0_i32_76 : BitVec 32 := 0#32
  let v132 : BitVec 1 := Scalar.cmpi .ne v131 c0_i32_76
  v132

def k0_off19 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond29 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off20 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
def k0_cond32 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_77 : BitVec 32 := 8#32
  let c0_i32_78 : BitVec 32 := 0#32
  let v133 : BitVec 1 := Scalar.cmpi .eq c8_i32_77 c0_i32_78
  let c1_i32_79 : BitVec 32 := 1#32
  let v134 : BitVec 32 := Scalar.select v133 c1_i32_79 c8_i32_77
  let v135 : BitVec 32 := Scalar.remsi arg20 v134
  let c0_i32_81 : BitVec 32 := 0#32
  let v137 : BitVec 1 := Scalar.cmpi .slt v135 c0_i32_81
  let c0_i32_82 : BitVec 32 := 0#32
  let v138 : BitVec 1 := Scalar.cmpi .slt v134 c0_i32_82
  let v139 : BitVec 1 := Scalar.xori v137 v138
  let c0_i32_80 : BitVec 32 := 0#32
  let v136 : BitVec 1 := Scalar.cmpi .ne v135 c0_i32_80
  let v140 : BitVec 1 := Scalar.andi v139 v136
  let v141 : BitVec 32 := Scalar.addi v135 v134
  let v142 : BitVec 32 := Scalar.select v140 v141 v135
  let c6_i32_83 : BitVec 32 := 6#32
  let v143 : BitVec 1 := Scalar.cmpi .eq v142 c6_i32_83
  let v144 : BitVec 32 := Scalar.extui v143
  let c0_i32_84 : BitVec 32 := 0#32
  let v145 : BitVec 1 := Scalar.cmpi .ne v144 c0_i32_84
  v145

def k0_off21 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond33 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off22 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
def k0_cond36 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_85 : BitVec 32 := 8#32
  let c0_i32_86 : BitVec 32 := 0#32
  let v146 : BitVec 1 := Scalar.cmpi .eq c8_i32_85 c0_i32_86
  let c1_i32_87 : BitVec 32 := 1#32
  let v147 : BitVec 32 := Scalar.select v146 c1_i32_87 c8_i32_85
  let v148 : BitVec 32 := Scalar.remsi arg20 v147
  let c0_i32_89 : BitVec 32 := 0#32
  let v150 : BitVec 1 := Scalar.cmpi .slt v148 c0_i32_89
  let c0_i32_90 : BitVec 32 := 0#32
  let v151 : BitVec 1 := Scalar.cmpi .slt v147 c0_i32_90
  let v152 : BitVec 1 := Scalar.xori v150 v151
  let c0_i32_88 : BitVec 32 := 0#32
  let v149 : BitVec 1 := Scalar.cmpi .ne v148 c0_i32_88
  let v153 : BitVec 1 := Scalar.andi v152 v149
  let v154 : BitVec 32 := Scalar.addi v148 v147
  let v155 : BitVec 32 := Scalar.select v153 v154 v148
  let c7_i32 : BitVec 32 := 7#32
  let v156 : BitVec 1 := Scalar.cmpi .eq v155 c7_i32
  let v157 : BitVec 32 := Scalar.extui v156
  let c0_i32_91 : BitVec 32 := 0#32
  let v158 : BitVec 1 := Scalar.cmpi .ne v157 c0_i32_91
  v158

def k0_off23 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond37 (v1 : BitVec 32) (k0_t1 : Fin (k0_t1_loop v1).trips) : BitVec 1 :=
  let c0_i32_18 : BitVec 32 := 0#32
  let c1_i32_20 : BitVec 32 := 1#32
  let arg20 : BitVec 32 := Scf.iv c0_i32_18 c1_i32_20 k0_t1
  let c8_i32_92 : BitVec 32 := 8#32
  let v159 : BitVec 32 := Scalar.addi arg20 c8_i32_92
  let c1_i32_93 : BitVec 32 := 1#32
  let v160 : BitVec 32 := Scalar.subi v159 c1_i32_93
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off24 (i : grid0.Coords) (v1 : BitVec 32) (k0_t1 : Fin (k0_t1_loop v1).trips) : Fin 3 → Nat :=
  let arg0 : BitVec 32 := BitVec.ofNat 32 (i 0).val
  let c0_i32_18 : BitVec 32 := 0#32
  let c1_i32_20 : BitVec 32 := 1#32
  let arg20 : BitVec 32 := Scf.iv c0_i32_18 c1_i32_20 k0_t1
  let c256_i32_95 : BitVec 32 := 256#32
  let v164 : BitVec 32 := Scalar.muli arg20 c256_i32_95
  let c0_i32_96 : BitVec 32 := 0#32
  ![arg0.toNat, v164.toNat, 0]
@[reducible] def k0_t2_loop (v1 : BitVec 32) : Scf.Loop 32 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let v45 : BitVec 32 := Scalar.addi c0_i32_18 v44
  let c1_i32_21 : BitVec 32 := 1#32
  ⟨v48, v45, c1_i32_21⟩
def k0_off25 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond40 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32 : BitVec 32 := 8#32
  let c0_i32_30 : BitVec 32 := 0#32
  let v55 : BitVec 1 := Scalar.cmpi .eq c8_i32 c0_i32_30
  let c1_i32_31 : BitVec 32 := 1#32
  let v56 : BitVec 32 := Scalar.select v55 c1_i32_31 c8_i32
  let v57 : BitVec 32 := Scalar.remsi arg20 v56
  let c0_i32_33 : BitVec 32 := 0#32
  let v59 : BitVec 1 := Scalar.cmpi .slt v57 c0_i32_33
  let c0_i32_34 : BitVec 32 := 0#32
  let v60 : BitVec 1 := Scalar.cmpi .slt v56 c0_i32_34
  let v61 : BitVec 1 := Scalar.xori v59 v60
  let c0_i32_32 : BitVec 32 := 0#32
  let v58 : BitVec 1 := Scalar.cmpi .ne v57 c0_i32_32
  let v62 : BitVec 1 := Scalar.andi v61 v58
  let v63 : BitVec 32 := Scalar.addi v57 v56
  let v64 : BitVec 32 := Scalar.select v62 v63 v57
  let c0_i32_35 : BitVec 32 := 0#32
  let v65 : BitVec 1 := Scalar.cmpi .eq v64 c0_i32_35
  let v66 : BitVec 32 := Scalar.extui v65
  let c0_i32_36 : BitVec 32 := 0#32
  let v67 : BitVec 1 := Scalar.cmpi .ne v66 c0_i32_36
  v67

def k0_cond41 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off26 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]
def k0_off27 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond44 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_37 : BitVec 32 := 8#32
  let c0_i32_38 : BitVec 32 := 0#32
  let v68 : BitVec 1 := Scalar.cmpi .eq c8_i32_37 c0_i32_38
  let c1_i32_39 : BitVec 32 := 1#32
  let v69 : BitVec 32 := Scalar.select v68 c1_i32_39 c8_i32_37
  let v70 : BitVec 32 := Scalar.remsi arg20 v69
  let c0_i32_41 : BitVec 32 := 0#32
  let v72 : BitVec 1 := Scalar.cmpi .slt v70 c0_i32_41
  let c0_i32_42 : BitVec 32 := 0#32
  let v73 : BitVec 1 := Scalar.cmpi .slt v69 c0_i32_42
  let v74 : BitVec 1 := Scalar.xori v72 v73
  let c0_i32_40 : BitVec 32 := 0#32
  let v71 : BitVec 1 := Scalar.cmpi .ne v70 c0_i32_40
  let v75 : BitVec 1 := Scalar.andi v74 v71
  let v76 : BitVec 32 := Scalar.addi v70 v69
  let v77 : BitVec 32 := Scalar.select v75 v76 v70
  let c1_i32_43 : BitVec 32 := 1#32
  let v78 : BitVec 1 := Scalar.cmpi .eq v77 c1_i32_43
  let v79 : BitVec 32 := Scalar.extui v78
  let c0_i32_44 : BitVec 32 := 0#32
  let v80 : BitVec 1 := Scalar.cmpi .ne v79 c0_i32_44
  v80

def k0_cond45 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off28 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]
def k0_off29 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond48 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_45 : BitVec 32 := 8#32
  let c0_i32_46 : BitVec 32 := 0#32
  let v81 : BitVec 1 := Scalar.cmpi .eq c8_i32_45 c0_i32_46
  let c1_i32_47 : BitVec 32 := 1#32
  let v82 : BitVec 32 := Scalar.select v81 c1_i32_47 c8_i32_45
  let v83 : BitVec 32 := Scalar.remsi arg20 v82
  let c0_i32_49 : BitVec 32 := 0#32
  let v85 : BitVec 1 := Scalar.cmpi .slt v83 c0_i32_49
  let c0_i32_50 : BitVec 32 := 0#32
  let v86 : BitVec 1 := Scalar.cmpi .slt v82 c0_i32_50
  let v87 : BitVec 1 := Scalar.xori v85 v86
  let c0_i32_48 : BitVec 32 := 0#32
  let v84 : BitVec 1 := Scalar.cmpi .ne v83 c0_i32_48
  let v88 : BitVec 1 := Scalar.andi v87 v84
  let v89 : BitVec 32 := Scalar.addi v83 v82
  let v90 : BitVec 32 := Scalar.select v88 v89 v83
  let c2_i32_51 : BitVec 32 := 2#32
  let v91 : BitVec 1 := Scalar.cmpi .eq v90 c2_i32_51
  let v92 : BitVec 32 := Scalar.extui v91
  let c0_i32_52 : BitVec 32 := 0#32
  let v93 : BitVec 1 := Scalar.cmpi .ne v92 c0_i32_52
  v93

def k0_cond49 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off30 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]
def k0_off31 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond52 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_53 : BitVec 32 := 8#32
  let c0_i32_54 : BitVec 32 := 0#32
  let v94 : BitVec 1 := Scalar.cmpi .eq c8_i32_53 c0_i32_54
  let c1_i32_55 : BitVec 32 := 1#32
  let v95 : BitVec 32 := Scalar.select v94 c1_i32_55 c8_i32_53
  let v96 : BitVec 32 := Scalar.remsi arg20 v95
  let c0_i32_57 : BitVec 32 := 0#32
  let v98 : BitVec 1 := Scalar.cmpi .slt v96 c0_i32_57
  let c0_i32_58 : BitVec 32 := 0#32
  let v99 : BitVec 1 := Scalar.cmpi .slt v95 c0_i32_58
  let v100 : BitVec 1 := Scalar.xori v98 v99
  let c0_i32_56 : BitVec 32 := 0#32
  let v97 : BitVec 1 := Scalar.cmpi .ne v96 c0_i32_56
  let v101 : BitVec 1 := Scalar.andi v100 v97
  let v102 : BitVec 32 := Scalar.addi v96 v95
  let v103 : BitVec 32 := Scalar.select v101 v102 v96
  let c3_i32_59 : BitVec 32 := 3#32
  let v104 : BitVec 1 := Scalar.cmpi .eq v103 c3_i32_59
  let v105 : BitVec 32 := Scalar.extui v104
  let c0_i32_60 : BitVec 32 := 0#32
  let v106 : BitVec 1 := Scalar.cmpi .ne v105 c0_i32_60
  v106

def k0_cond53 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off32 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]
def k0_off33 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond56 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_61 : BitVec 32 := 8#32
  let c0_i32_62 : BitVec 32 := 0#32
  let v107 : BitVec 1 := Scalar.cmpi .eq c8_i32_61 c0_i32_62
  let c1_i32_63 : BitVec 32 := 1#32
  let v108 : BitVec 32 := Scalar.select v107 c1_i32_63 c8_i32_61
  let v109 : BitVec 32 := Scalar.remsi arg20 v108
  let c0_i32_65 : BitVec 32 := 0#32
  let v111 : BitVec 1 := Scalar.cmpi .slt v109 c0_i32_65
  let c0_i32_66 : BitVec 32 := 0#32
  let v112 : BitVec 1 := Scalar.cmpi .slt v108 c0_i32_66
  let v113 : BitVec 1 := Scalar.xori v111 v112
  let c0_i32_64 : BitVec 32 := 0#32
  let v110 : BitVec 1 := Scalar.cmpi .ne v109 c0_i32_64
  let v114 : BitVec 1 := Scalar.andi v113 v110
  let v115 : BitVec 32 := Scalar.addi v109 v108
  let v116 : BitVec 32 := Scalar.select v114 v115 v109
  let c4_i32_67 : BitVec 32 := 4#32
  let v117 : BitVec 1 := Scalar.cmpi .eq v116 c4_i32_67
  let v118 : BitVec 32 := Scalar.extui v117
  let c0_i32_68 : BitVec 32 := 0#32
  let v119 : BitVec 1 := Scalar.cmpi .ne v118 c0_i32_68
  v119

def k0_cond57 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off34 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]
def k0_off35 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond60 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_69 : BitVec 32 := 8#32
  let c0_i32_70 : BitVec 32 := 0#32
  let v120 : BitVec 1 := Scalar.cmpi .eq c8_i32_69 c0_i32_70
  let c1_i32_71 : BitVec 32 := 1#32
  let v121 : BitVec 32 := Scalar.select v120 c1_i32_71 c8_i32_69
  let v122 : BitVec 32 := Scalar.remsi arg20 v121
  let c0_i32_73 : BitVec 32 := 0#32
  let v124 : BitVec 1 := Scalar.cmpi .slt v122 c0_i32_73
  let c0_i32_74 : BitVec 32 := 0#32
  let v125 : BitVec 1 := Scalar.cmpi .slt v121 c0_i32_74
  let v126 : BitVec 1 := Scalar.xori v124 v125
  let c0_i32_72 : BitVec 32 := 0#32
  let v123 : BitVec 1 := Scalar.cmpi .ne v122 c0_i32_72
  let v127 : BitVec 1 := Scalar.andi v126 v123
  let v128 : BitVec 32 := Scalar.addi v122 v121
  let v129 : BitVec 32 := Scalar.select v127 v128 v122
  let c5_i32_75 : BitVec 32 := 5#32
  let v130 : BitVec 1 := Scalar.cmpi .eq v129 c5_i32_75
  let v131 : BitVec 32 := Scalar.extui v130
  let c0_i32_76 : BitVec 32 := 0#32
  let v132 : BitVec 1 := Scalar.cmpi .ne v131 c0_i32_76
  v132

def k0_cond61 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off36 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]
def k0_off37 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond64 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_77 : BitVec 32 := 8#32
  let c0_i32_78 : BitVec 32 := 0#32
  let v133 : BitVec 1 := Scalar.cmpi .eq c8_i32_77 c0_i32_78
  let c1_i32_79 : BitVec 32 := 1#32
  let v134 : BitVec 32 := Scalar.select v133 c1_i32_79 c8_i32_77
  let v135 : BitVec 32 := Scalar.remsi arg20 v134
  let c0_i32_81 : BitVec 32 := 0#32
  let v137 : BitVec 1 := Scalar.cmpi .slt v135 c0_i32_81
  let c0_i32_82 : BitVec 32 := 0#32
  let v138 : BitVec 1 := Scalar.cmpi .slt v134 c0_i32_82
  let v139 : BitVec 1 := Scalar.xori v137 v138
  let c0_i32_80 : BitVec 32 := 0#32
  let v136 : BitVec 1 := Scalar.cmpi .ne v135 c0_i32_80
  let v140 : BitVec 1 := Scalar.andi v139 v136
  let v141 : BitVec 32 := Scalar.addi v135 v134
  let v142 : BitVec 32 := Scalar.select v140 v141 v135
  let c6_i32_83 : BitVec 32 := 6#32
  let v143 : BitVec 1 := Scalar.cmpi .eq v142 c6_i32_83
  let v144 : BitVec 32 := Scalar.extui v143
  let c0_i32_84 : BitVec 32 := 0#32
  let v145 : BitVec 1 := Scalar.cmpi .ne v144 c0_i32_84
  v145

def k0_cond65 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off38 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]
def k0_off39 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_101 : BitVec 32 := 8#32
  let v175 : BitVec 32 := Scalar.addi arg20 c8_i32_101
  let c1_i32_102 : BitVec 32 := 1#32
  let v176 : BitVec 32 := Scalar.subi v175 c1_i32_102
  let c256_i32_103 : BitVec 32 := 256#32
  let v177 : BitVec 32 := Scalar.muli v176 c256_i32_103
  let c0_i32_104 : BitVec 32 := 0#32
  ![arg0.toNat, v177.toNat, 0]
def k0_cond68 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_85 : BitVec 32 := 8#32
  let c0_i32_86 : BitVec 32 := 0#32
  let v146 : BitVec 1 := Scalar.cmpi .eq c8_i32_85 c0_i32_86
  let c1_i32_87 : BitVec 32 := 1#32
  let v147 : BitVec 32 := Scalar.select v146 c1_i32_87 c8_i32_85
  let v148 : BitVec 32 := Scalar.remsi arg20 v147
  let c0_i32_89 : BitVec 32 := 0#32
  let v150 : BitVec 1 := Scalar.cmpi .slt v148 c0_i32_89
  let c0_i32_90 : BitVec 32 := 0#32
  let v151 : BitVec 1 := Scalar.cmpi .slt v147 c0_i32_90
  let v152 : BitVec 1 := Scalar.xori v150 v151
  let c0_i32_88 : BitVec 32 := 0#32
  let v149 : BitVec 1 := Scalar.cmpi .ne v148 c0_i32_88
  let v153 : BitVec 1 := Scalar.andi v152 v149
  let v154 : BitVec 32 := Scalar.addi v148 v147
  let v155 : BitVec 32 := Scalar.select v153 v154 v148
  let c7_i32 : BitVec 32 := 7#32
  let v156 : BitVec 1 := Scalar.cmpi .eq v155 c7_i32
  let v157 : BitVec 32 := Scalar.extui v156
  let c0_i32_91 : BitVec 32 := 0#32
  let v158 : BitVec 1 := Scalar.cmpi .ne v157 c0_i32_91
  v158

def k0_cond69 (v1 : BitVec 32) (k0_t2 : Fin (k0_t2_loop v1).trips) : BitVec 1 :=
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c8_i32_92 : BitVec 32 := 8#32
  let v159 : BitVec 32 := Scalar.addi arg20 c8_i32_92
  let c1_i32_93 : BitVec 32 := 1#32
  let v160 : BitVec 32 := Scalar.subi v159 c1_i32_93
  let v161 : BitVec 1 := Scalar.cmpi .slt v160 v20
  let v162 : BitVec 32 := Scalar.extui v161
  let c0_i32_94 : BitVec 32 := 0#32
  let v163 : BitVec 1 := Scalar.cmpi .ne v162 c0_i32_94
  v163

def k0_off40 (i : grid0.Coords) (v1 : BitVec 32) (k0_t2 : Fin (k0_t2_loop v1).trips) : Fin 3 → Nat :=
  let arg0 : BitVec 32 := BitVec.ofNat 32 (i 0).val
  let c0_i32_18 : BitVec 32 := 0#32
  let c256_i32 : BitVec 32 := 256#32
  let v2 : BitVec 32 := Scalar.addi v1 c256_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c256_i32_0 : BitVec 32 := 256#32
  let c0_i32_2 : BitVec 32 := 0#32
  let v10 : BitVec 1 := Scalar.cmpi .sgt c256_i32_0 c0_i32_2
  let v11 : BitVec 32 := Scalar.extui v10
  let c0_i32_3 : BitVec 32 := 0#32
  let v12 : BitVec 1 := Scalar.cmpi .slt c256_i32_0 c0_i32_3
  let v13 : BitVec 32 := Scalar.extui v12
  let v14 : BitVec 32 := Scalar.subi v11 v13
  let v15 : BitVec 1 := Scalar.cmpi .ne v9 v14
  let v16 : BitVec 32 := Scalar.remsi v3 c256_i32_0
  let c0_i32_4 : BitVec 32 := 0#32
  let v17 : BitVec 1 := Scalar.cmpi .ne v16 c0_i32_4
  let v18 : BitVec 1 := Scalar.andi v15 v17
  let v4 : BitVec 32 := Scalar.divsi v3 c256_i32_0
  let c1_i32_5 : BitVec 32 := 1#32
  let v19 : BitVec 32 := Scalar.subi v4 c1_i32_5
  let v20 : BitVec 32 := Scalar.select v18 v19 v4
  let v44 : BitVec 32 := Scalar.subi v20 c0_i32_18
  let c1_i32_19 : BitVec 32 := 1#32
  let v46 : BitVec 32 := Scalar.divsi v44 c1_i32_19
  let v47 : BitVec 32 := Scalar.muli v46 c1_i32_19
  let v48 : BitVec 32 := Scalar.addi c0_i32_18 v47
  let c1_i32_21 : BitVec 32 := 1#32
  let arg20 : BitVec 32 := Scf.iv v48 c1_i32_21 k0_t2
  let c256_i32_95 : BitVec 32 := 256#32
  let v164 : BitVec 32 := Scalar.muli arg20 c256_i32_95
  let c0_i32_96 : BitVec 32 := 0#32
  ![arg0.toNat, v164.toNat, 0]

def k0_chk1_0 (i : grid0.Coords) (v1 : BitVec 32) : Prop :=
  ((k0_t1_loop v1).OK) ∧
  (∀ k0_t1 : Fin (k0_t1_loop v1).trips, ∀ (k0_h8 : k0_cond8 v1 k0_t1 = 1#1), ∀ (k0_h9 : k0_cond9 v1 k0_t1 = 1#1), ∀ a, (k0_off9 i v1 k0_t1) a + S1x256x1024.size a ≤ S16x4096x1024.size a) ∧
  (∀ k0_t1 : Fin (k0_t1_loop v1).trips, ∀ (k0_h8 : k0_cond8 v1 k0_t1 = 1#1), ∀ a, (k0_off10 i v1 k0_t1) a + S1x256x1024.size a ≤ S16x4096x1024.size a) ∧
  (∀ k0_t1 : Fin (k0_t1_loop v1).trips, ∀ (k0_h12 : k0_cond12 v1 k0_t1 = 1#1), ∀ (k0_h13 : k0_cond13 v1 k0_t1 = 1#1), ∀ a, (k0_off11 i v1 k0_t1) a + S1x256x1024.size a ≤ S16x4096x1024.size a) ∧
  (∀ k0_t1 : Fin (k0_t1_loop v1).trips, ∀ (k0_h12 : k0_cond12 v1 k0_t1 = 1#1), ∀ a, (k0_off12 i v1 k0_t1) a + S1x256x1024.size a ≤ S16x4096x1024.size a) ∧
  (∀ k0_t1 : Fin (k0_t1_loop v1).trips, ∀ (k0_h16 : k0_cond16 v1 k0_t1 = 1#1), ∀ (k0_h17 : k0_cond17 v1 k0_t1 = 1#1), ∀ a, (k0_off13 i v1 k0_t1) a + S1x256x1024.size a ≤ S16x4096x1024.size a) ∧
  (∀ k0_t1 : Fin (k0_t1_loop v1).trips, ∀ (k0_h16 : k0_cond16 v1 k0_t1 = 1#1), ∀ a, (k0_off14 i v1 k0_t1) a + S1x256x1024.size a ≤ S16x4096x1024.size a) ∧
  (∀ k0_t1 : Fin (k0_t1_loop v1).trips, ∀ (k0_h20 : k0_cond20 v1 k0_t1 = 1#1), ∀ (k0_h21 : k0_cond21 v1 k0_t1 = 1#1), ∀ a, (k0_off15 i v1 k0_t1) a + S1x256x1024.size a ≤ S16x4096x1024.size a) ∧
  (∀ k0_t1 : Fin (k0_t1_loop v1).trips, ∀ (k0_h20 : k0_cond20 v1 k0_t1 = 1#1), ∀ a, (k0_off16 i v1 k0_t1) a + S1x256x1024.size a ≤ S16x4096x1024.size a) ∧
  (∀ k0_t1 : Fin (k0_t1_loop v1).trips, ∀ (k0_h24 : k0_cond24 v1 k0_t1 = 1#1), ∀ (k0_h25 : k0_cond25 v1 k0_t1 = 1#1), ∀ a, (k0_off17 i v1 k0_t1) a + S1x256x1024.size a ≤ S16x4096x1024.size a) ∧
  (∀ k0_t1 : Fin (k0_t1_loop v1).trips, ∀ (k0_h24 : k0_cond24 v1 k0_t1 = 1#1), ∀ a, (k0_off18 i v1 k0_t1) a + S1x256x1024.size a ≤ S16x4096x1024.size a) ∧
  (∀ k0_t1 : Fin (k0_t1_loop v1).trips, ∀ (k0_h28 : k0_cond28 v1 k0_t1 = 1#1), ∀ (k0_h29 : k0_cond29 v1 k0_t1 = 1#1), ∀ a, (k0_off19 i v1 k0_t1) a + S1x256x1024.size a ≤ S16x4096x1024.size a) ∧
  (∀ k0_t1 : Fin (k0_t1_loop v1).trips, ∀ (k0_h28 : k0_cond28 v1 k0_t1 = 1#1), ∀ a, (k0_off20 i v1 k0_t1) a + S1x256x1024.size a ≤ S16x4096x1024.size a) ∧
  (∀ k0_t1 : Fin (k0_t1_loop v1).trips, ∀ (k0_h32 : k0_cond32 v1 k0_t1 = 1#1), ∀ (k0_h33 : k0_cond33 v1 k0_t1 = 1#1), ∀ a, (k0_off21 i v1 k0_t1) a + S1x256x1024.size a ≤ S16x4096x1024.size a) ∧
  (∀ k0_t1 : Fin (k0_t1_loop v1).trips, ∀ (k0_h32 : k0_cond32 v1 k0_t1 = 1#1), ∀ a, (k0_off22 i v1 k0_t1) a + S1x256x1024.size a ≤ S16x4096x1024.size a) ∧
  (∀ k0_t1 : Fin (k0_t1_loop v1).trips, ∀ (k0_h36 : k0_cond36 v1 k0_t1 = 1#1), ∀ (k0_h37 : k0_cond37 v1 k0_t1 = 1#1), ∀ a, (k0_off23 i v1 k0_t1) a + S1x256x1024.size a ≤ S16x4096x1024.size a) ∧
  (∀ k0_t1 : Fin (k0_t1_loop v1).trips, ∀ (k0_h36 : k0_cond36 v1 k0_t1 = 1#1), ∀ a, (k0_off24 i v1 k0_t1) a + S1x256x1024.size a ≤ S16x4096x1024.size a) ∧
  ((k0_t2_loop v1).OK) ∧
  (∀ k0_t2 : Fin (k0_t2_loop v1).trips, ∀ (k0_h40 : k0_cond40 v1 k0_t2 = 1#1), ∀ (k0_h41 : k0_cond41 v1 k0_t2 = 1#1), ∀ a, (k0_off25 i v1 k0_t2) a + S1x256x1024.size a ≤ S16x4096x1024.size a) ∧
  (∀ k0_t2 : Fin (k0_t2_loop v1).trips, ∀ (k0_h40 : k0_cond40 v1 k0_t2 = 1#1), ∀ a, (k0_off26 i v1 k0_t2) a + S1x256x1024.size a ≤ S16x4096x1024.size a) ∧
  (∀ k0_t2 : Fin (k0_t2_loop v1).trips, ∀ (k0_h44 : k0_cond44 v1 k0_t2 = 1#1), ∀ (k0_h45 : k0_cond45 v1 k0_t2 = 1#1), ∀ a, (k0_off27 i v1 k0_t2) a + S1x256x1024.size a ≤ S16x4096x1024.size a) ∧
  (∀ k0_t2 : Fin (k0_t2_loop v1).trips, ∀ (k0_h44 : k0_cond44 v1 k0_t2 = 1#1), ∀ a, (k0_off28 i v1 k0_t2) a + S1x256x1024.size a ≤ S16x4096x1024.size a) ∧
  (∀ k0_t2 : Fin (k0_t2_loop v1).trips, ∀ (k0_h48 : k0_cond48 v1 k0_t2 = 1#1), ∀ (k0_h49 : k0_cond49 v1 k0_t2 = 1#1), ∀ a, (k0_off29 i v1 k0_t2) a + S1x256x1024.size a ≤ S16x4096x1024.size a) ∧
  (∀ k0_t2 : Fin (k0_t2_loop v1).trips, ∀ (k0_h48 : k0_cond48 v1 k0_t2 = 1#1), ∀ a, (k0_off30 i v1 k0_t2) a + S1x256x1024.size a ≤ S16x4096x1024.size a) ∧
  (∀ k0_t2 : Fin (k0_t2_loop v1).trips, ∀ (k0_h52 : k0_cond52 v1 k0_t2 = 1#1), ∀ (k0_h53 : k0_cond53 v1 k0_t2 = 1#1), ∀ a, (k0_off31 i v1 k0_t2) a + S1x256x1024.size a ≤ S16x4096x1024.size a) ∧
  (∀ k0_t2 : Fin (k0_t2_loop v1).trips, ∀ (k0_h52 : k0_cond52 v1 k0_t2 = 1#1), ∀ a, (k0_off32 i v1 k0_t2) a + S1x256x1024.size a ≤ S16x4096x1024.size a) ∧
  (∀ k0_t2 : Fin (k0_t2_loop v1).trips, ∀ (k0_h56 : k0_cond56 v1 k0_t2 = 1#1), ∀ (k0_h57 : k0_cond57 v1 k0_t2 = 1#1), ∀ a, (k0_off33 i v1 k0_t2) a + S1x256x1024.size a ≤ S16x4096x1024.size a) ∧
  (∀ k0_t2 : Fin (k0_t2_loop v1).trips, ∀ (k0_h56 : k0_cond56 v1 k0_t2 = 1#1), ∀ a, (k0_off34 i v1 k0_t2) a + S1x256x1024.size a ≤ S16x4096x1024.size a) ∧
  (∀ k0_t2 : Fin (k0_t2_loop v1).trips, ∀ (k0_h60 : k0_cond60 v1 k0_t2 = 1#1), ∀ (k0_h61 : k0_cond61 v1 k0_t2 = 1#1), ∀ a, (k0_off35 i v1 k0_t2) a + S1x256x1024.size a ≤ S16x4096x1024.size a) ∧
  (∀ k0_t2 : Fin (k0_t2_loop v1).trips, ∀ (k0_h60 : k0_cond60 v1 k0_t2 = 1#1), ∀ a, (k0_off36 i v1 k0_t2) a + S1x256x1024.size a ≤ S16x4096x1024.size a) ∧
  (∀ k0_t2 : Fin (k0_t2_loop v1).trips, ∀ (k0_h64 : k0_cond64 v1 k0_t2 = 1#1), ∀ (k0_h65 : k0_cond65 v1 k0_t2 = 1#1), ∀ a, (k0_off37 i v1 k0_t2) a + S1x256x1024.size a ≤ S16x4096x1024.size a) ∧
  (∀ k0_t2 : Fin (k0_t2_loop v1).trips, ∀ (k0_h64 : k0_cond64 v1 k0_t2 = 1#1), ∀ a, (k0_off38 i v1 k0_t2) a + S1x256x1024.size a ≤ S16x4096x1024.size a)
def k0_chk1_1 (i : grid0.Coords) (v1 : BitVec 32) : Prop :=
  (∀ k0_t2 : Fin (k0_t2_loop v1).trips, ∀ (k0_h68 : k0_cond68 v1 k0_t2 = 1#1), ∀ (k0_h69 : k0_cond69 v1 k0_t2 = 1#1), ∀ a, (k0_off39 i v1 k0_t2) a + S1x256x1024.size a ≤ S16x4096x1024.size a) ∧
  (∀ k0_t2 : Fin (k0_t2_loop v1).trips, ∀ (k0_h68 : k0_cond68 v1 k0_t2 = 1#1), ∀ a, (k0_off40 i v1 k0_t2) a + S1x256x1024.size a ≤ S16x4096x1024.size a)
def k0_chk1 (i : grid0.Coords) (v1 : BitVec 32) : Prop :=
  k0_chk1_0 i v1 ∧
  k0_chk1_1 i v1
theorem k0_t1_ok : ∀ (i : grid0.Coords) (v1 : BitVec 32) (k0_hw1 : k0_chk1 i v1), (k0_t1_loop v1).OK := fun i v1 k0_hw1 => k0_hw1.1.1
theorem k0_off9_inb : ∀ (i : grid0.Coords) (v1 : BitVec 32) (k0_hw1 : k0_chk1 i v1) (k0_t1 : Fin (k0_t1_loop v1).trips), ∀ (k0_h8 : k0_cond8 v1 k0_t1 = 1#1), ∀ (k0_h9 : k0_cond9 v1 k0_t1 = 1#1), ∀ a, (k0_off9 i v1 k0_t1) a + S1x256x1024.size a ≤ S16x4096x1024.size a := fun i v1 k0_hw1 k0_t1 k0_h8 k0_h9 => k0_hw1.1.2.1 k0_t1 k0_h8 k0_h9
theorem k0_off10_inb : ∀ (i : grid0.Coords) (v1 : BitVec 32) (k0_hw1 : k0_chk1 i v1) (k0_t1 : Fin (k0_t1_loop v1).trips), ∀ (k0_h8 : k0_cond8 v1 k0_t1 = 1#1), ∀ a, (k0_off10 i v1 k0_t1) a + S1x256x1024.size a ≤ S16x4096x1024.size a := fun i v1 k0_hw1 k0_t1 k0_h8 => k0_hw1.1.2.2.1 k0_t1 k0_h8
theorem k0_off11_inb : ∀ (i : grid0.Coords) (v1 : BitVec 32) (k0_hw1 : k0_chk1 i v1) (k0_t1 : Fin (k0_t1_loop v1).trips), ∀ (k0_h12 : k0_cond12 v1 k0_t1 = 1#1), ∀ (k0_h13 : k0_cond13 v1 k0_t1 = 1#1), ∀ a, (k0_off11 i v1 k0_t1) a + S1x256x1024.size a ≤ S16x4096x1024.size a := fun i v1 k0_hw1 k0_t1 k0_h12 k0_h13 => k0_hw1.1.2.2.2.1 k0_t1 k0_h12 k0_h13
theorem k0_off12_inb : ∀ (i : grid0.Coords) (v1 : BitVec 32) (k0_hw1 : k0_chk1 i v1) (k0_t1 : Fin (k0_t1_loop v1).trips), ∀ (k0_h12 : k0_cond12 v1 k0_t1 = 1#1), ∀ a, (k0_off12 i v1 k0_t1) a + S1x256x1024.size a ≤ S16x4096x1024.size a := fun i v1 k0_hw1 k0_t1 k0_h12 => k0_hw1.1.2.2.2.2.1 k0_t1 k0_h12
theorem k0_off13_inb : ∀ (i : grid0.Coords) (v1 : BitVec 32) (k0_hw1 : k0_chk1 i v1) (k0_t1 : Fin (k0_t1_loop v1).trips), ∀ (k0_h16 : k0_cond16 v1 k0_t1 = 1#1), ∀ (k0_h17 : k0_cond17 v1 k0_t1 = 1#1), ∀ a, (k0_off13 i v1 k0_t1) a + S1x256x1024.size a ≤ S16x4096x1024.size a := fun i v1 k0_hw1 k0_t1 k0_h16 k0_h17 => k0_hw1.1.2.2.2.2.2.1 k0_t1 k0_h16 k0_h17
theorem k0_off14_inb : ∀ (i : grid0.Coords) (v1 : BitVec 32) (k0_hw1 : k0_chk1 i v1) (k0_t1 : Fin (k0_t1_loop v1).trips), ∀ (k0_h16 : k0_cond16 v1 k0_t1 = 1#1), ∀ a, (k0_off14 i v1 k0_t1) a + S1x256x1024.size a ≤ S16x4096x1024.size a := fun i v1 k0_hw1 k0_t1 k0_h16 => k0_hw1.1.2.2.2.2.2.2.1 k0_t1 k0_h16
theorem k0_off15_inb : ∀ (i : grid0.Coords) (v1 : BitVec 32) (k0_hw1 : k0_chk1 i v1) (k0_t1 : Fin (k0_t1_loop v1).trips), ∀ (k0_h20 : k0_cond20 v1 k0_t1 = 1#1), ∀ (k0_h21 : k0_cond21 v1 k0_t1 = 1#1), ∀ a, (k0_off15 i v1 k0_t1) a + S1x256x1024.size a ≤ S16x4096x1024.size a := fun i v1 k0_hw1 k0_t1 k0_h20 k0_h21 => k0_hw1.1.2.2.2.2.2.2.2.1 k0_t1 k0_h20 k0_h21
theorem k0_off16_inb : ∀ (i : grid0.Coords) (v1 : BitVec 32) (k0_hw1 : k0_chk1 i v1) (k0_t1 : Fin (k0_t1_loop v1).trips), ∀ (k0_h20 : k0_cond20 v1 k0_t1 = 1#1), ∀ a, (k0_off16 i v1 k0_t1) a + S1x256x1024.size a ≤ S16x4096x1024.size a := fun i v1 k0_hw1 k0_t1 k0_h20 => k0_hw1.1.2.2.2.2.2.2.2.2.1 k0_t1 k0_h20
theorem k0_off17_inb : ∀ (i : grid0.Coords) (v1 : BitVec 32) (k0_hw1 : k0_chk1 i v1) (k0_t1 : Fin (k0_t1_loop v1).trips), ∀ (k0_h24 : k0_cond24 v1 k0_t1 = 1#1), ∀ (k0_h25 : k0_cond25 v1 k0_t1 = 1#1), ∀ a, (k0_off17 i v1 k0_t1) a + S1x256x1024.size a ≤ S16x4096x1024.size a := fun i v1 k0_hw1 k0_t1 k0_h24 k0_h25 => k0_hw1.1.2.2.2.2.2.2.2.2.2.1 k0_t1 k0_h24 k0_h25
theorem k0_off18_inb : ∀ (i : grid0.Coords) (v1 : BitVec 32) (k0_hw1 : k0_chk1 i v1) (k0_t1 : Fin (k0_t1_loop v1).trips), ∀ (k0_h24 : k0_cond24 v1 k0_t1 = 1#1), ∀ a, (k0_off18 i v1 k0_t1) a + S1x256x1024.size a ≤ S16x4096x1024.size a := fun i v1 k0_hw1 k0_t1 k0_h24 => k0_hw1.1.2.2.2.2.2.2.2.2.2.2.1 k0_t1 k0_h24
theorem k0_off19_inb : ∀ (i : grid0.Coords) (v1 : BitVec 32) (k0_hw1 : k0_chk1 i v1) (k0_t1 : Fin (k0_t1_loop v1).trips), ∀ (k0_h28 : k0_cond28 v1 k0_t1 = 1#1), ∀ (k0_h29 : k0_cond29 v1 k0_t1 = 1#1), ∀ a, (k0_off19 i v1 k0_t1) a + S1x256x1024.size a ≤ S16x4096x1024.size a := fun i v1 k0_hw1 k0_t1 k0_h28 k0_h29 => k0_hw1.1.2.2.2.2.2.2.2.2.2.2.2.1 k0_t1 k0_h28 k0_h29
theorem k0_off20_inb : ∀ (i : grid0.Coords) (v1 : BitVec 32) (k0_hw1 : k0_chk1 i v1) (k0_t1 : Fin (k0_t1_loop v1).trips), ∀ (k0_h28 : k0_cond28 v1 k0_t1 = 1#1), ∀ a, (k0_off20 i v1 k0_t1) a + S1x256x1024.size a ≤ S16x4096x1024.size a := fun i v1 k0_hw1 k0_t1 k0_h28 => k0_hw1.1.2.2.2.2.2.2.2.2.2.2.2.2.1 k0_t1 k0_h28
theorem k0_off21_inb : ∀ (i : grid0.Coords) (v1 : BitVec 32) (k0_hw1 : k0_chk1 i v1) (k0_t1 : Fin (k0_t1_loop v1).trips), ∀ (k0_h32 : k0_cond32 v1 k0_t1 = 1#1), ∀ (k0_h33 : k0_cond33 v1 k0_t1 = 1#1), ∀ a, (k0_off21 i v1 k0_t1) a + S1x256x1024.size a ≤ S16x4096x1024.size a := fun i v1 k0_hw1 k0_t1 k0_h32 k0_h33 => k0_hw1.1.2.2.2.2.2.2.2.2.2.2.2.2.2.1 k0_t1 k0_h32 k0_h33
theorem k0_off22_inb : ∀ (i : grid0.Coords) (v1 : BitVec 32) (k0_hw1 : k0_chk1 i v1) (k0_t1 : Fin (k0_t1_loop v1).trips), ∀ (k0_h32 : k0_cond32 v1 k0_t1 = 1#1), ∀ a, (k0_off22 i v1 k0_t1) a + S1x256x1024.size a ≤ S16x4096x1024.size a := fun i v1 k0_hw1 k0_t1 k0_h32 => k0_hw1.1.2.2.2.2.2.2.2.2.2.2.2.2.2.2.1 k0_t1 k0_h32
theorem k0_off23_inb : ∀ (i : grid0.Coords) (v1 : BitVec 32) (k0_hw1 : k0_chk1 i v1) (k0_t1 : Fin (k0_t1_loop v1).trips), ∀ (k0_h36 : k0_cond36 v1 k0_t1 = 1#1), ∀ (k0_h37 : k0_cond37 v1 k0_t1 = 1#1), ∀ a, (k0_off23 i v1 k0_t1) a + S1x256x1024.size a ≤ S16x4096x1024.size a := fun i v1 k0_hw1 k0_t1 k0_h36 k0_h37 => k0_hw1.1.2.2.2.2.2.2.2.2.2.2.2.2.2.2.2.1 k0_t1 k0_h36 k0_h37
theorem k0_off24_inb : ∀ (i : grid0.Coords) (v1 : BitVec 32) (k0_hw1 : k0_chk1 i v1) (k0_t1 : Fin (k0_t1_loop v1).trips), ∀ (k0_h36 : k0_cond36 v1 k0_t1 = 1#1), ∀ a, (k0_off24 i v1 k0_t1) a + S1x256x1024.size a ≤ S16x4096x1024.size a := fun i v1 k0_hw1 k0_t1 k0_h36 => k0_hw1.1.2.2.2.2.2.2.2.2.2.2.2.2.2.2.2.2.1 k0_t1 k0_h36
theorem k0_t2_ok : ∀ (i : grid0.Coords) (v1 : BitVec 32) (k0_hw1 : k0_chk1 i v1), (k0_t2_loop v1).OK := fun i v1 k0_hw1 => k0_hw1.1.2.2.2.2.2.2.2.2.2.2.2.2.2.2.2.2.2.1
theorem k0_off25_inb : ∀ (i : grid0.Coords) (v1 : BitVec 32) (k0_hw1 : k0_chk1 i v1) (k0_t2 : Fin (k0_t2_loop v1).trips), ∀ (k0_h40 : k0_cond40 v1 k0_t2 = 1#1), ∀ (k0_h41 : k0_cond41 v1 k0_t2 = 1#1), ∀ a, (k0_off25 i v1 k0_t2) a + S1x256x1024.size a ≤ S16x4096x1024.size a := fun i v1 k0_hw1 k0_t2 k0_h40 k0_h41 => k0_hw1.1.2.2.2.2.2.2.2.2.2.2.2.2.2.2.2.2.2.2.1 k0_t2 k0_h40 k0_h41
theorem k0_off26_inb : ∀ (i : grid0.Coords) (v1 : BitVec 32) (k0_hw1 : k0_chk1 i v1) (k0_t2 : Fin (k0_t2_loop v1).trips), ∀ (k0_h40 : k0_cond40 v1 k0_t2 = 1#1), ∀ a, (k0_off26 i v1 k0_t2) a + S1x256x1024.size a ≤ S16x4096x1024.size a := fun i v1 k0_hw1 k0_t2 k0_h40 => k0_hw1.1.2.2.2.2.2.2.2.2.2.2.2.2.2.2.2.2.2.2.2.1 k0_t2 k0_h40
theorem k0_off27_inb : ∀ (i : grid0.Coords) (v1 : BitVec 32) (k0_hw1 : k0_chk1 i v1) (k0_t2 : Fin (k0_t2_loop v1).trips), ∀ (k0_h44 : k0_cond44 v1 k0_t2 = 1#1), ∀ (k0_h45 : k0_cond45 v1 k0_t2 = 1#1), ∀ a, (k0_off27 i v1 k0_t2) a + S1x256x1024.size a ≤ S16x4096x1024.size a := fun i v1 k0_hw1 k0_t2 k0_h44 k0_h45 => k0_hw1.1.2.2.2.2.2.2.2.2.2.2.2.2.2.2.2.2.2.2.2.2.1 k0_t2 k0_h44 k0_h45
theorem k0_off28_inb : ∀ (i : grid0.Coords) (v1 : BitVec 32) (k0_hw1 : k0_chk1 i v1) (k0_t2 : Fin (k0_t2_loop v1).trips), ∀ (k0_h44 : k0_cond44 v1 k0_t2 = 1#1), ∀ a, (k0_off28 i v1 k0_t2) a + S1x256x1024.size a ≤ S16x4096x1024.size a := fun i v1 k0_hw1 k0_t2 k0_h44 => k0_hw1.1.2.2.2.2.2.2.2.2.2.2.2.2.2.2.2.2.2.2.2.2.2.1 k0_t2 k0_h44
theorem k0_off29_inb : ∀ (i : grid0.Coords) (v1 : BitVec 32) (k0_hw1 : k0_chk1 i v1) (k0_t2 : Fin (k0_t2_loop v1).trips), ∀ (k0_h48 : k0_cond48 v1 k0_t2 = 1#1), ∀ (k0_h49 : k0_cond49 v1 k0_t2 = 1#1), ∀ a, (k0_off29 i v1 k0_t2) a + S1x256x1024.size a ≤ S16x4096x1024.size a := fun i v1 k0_hw1 k0_t2 k0_h48 k0_h49 => k0_hw1.1.2.2.2.2.2.2.2.2.2.2.2.2.2.2.2.2.2.2.2.2.2.2.1 k0_t2 k0_h48 k0_h49
theorem k0_off30_inb : ∀ (i : grid0.Coords) (v1 : BitVec 32) (k0_hw1 : k0_chk1 i v1) (k0_t2 : Fin (k0_t2_loop v1).trips), ∀ (k0_h48 : k0_cond48 v1 k0_t2 = 1#1), ∀ a, (k0_off30 i v1 k0_t2) a + S1x256x1024.size a ≤ S16x4096x1024.size a := fun i v1 k0_hw1 k0_t2 k0_h48 => k0_hw1.1.2.2.2.2.2.2.2.2.2.2.2.2.2.2.2.2.2.2.2.2.2.2.2.1 k0_t2 k0_h48
theorem k0_off31_inb : ∀ (i : grid0.Coords) (v1 : BitVec 32) (k0_hw1 : k0_chk1 i v1) (k0_t2 : Fin (k0_t2_loop v1).trips), ∀ (k0_h52 : k0_cond52 v1 k0_t2 = 1#1), ∀ (k0_h53 : k0_cond53 v1 k0_t2 = 1#1), ∀ a, (k0_off31 i v1 k0_t2) a + S1x256x1024.size a ≤ S16x4096x1024.size a := fun i v1 k0_hw1 k0_t2 k0_h52 k0_h53 => k0_hw1.1.2.2.2.2.2.2.2.2.2.2.2.2.2.2.2.2.2.2.2.2.2.2.2.2.1 k0_t2 k0_h52 k0_h53
theorem k0_off32_inb : ∀ (i : grid0.Coords) (v1 : BitVec 32) (k0_hw1 : k0_chk1 i v1) (k0_t2 : Fin (k0_t2_loop v1).trips), ∀ (k0_h52 : k0_cond52 v1 k0_t2 = 1#1), ∀ a, (k0_off32 i v1 k0_t2) a + S1x256x1024.size a ≤ S16x4096x1024.size a := fun i v1 k0_hw1 k0_t2 k0_h52 => k0_hw1.1.2.2.2.2.2.2.2.2.2.2.2.2.2.2.2.2.2.2.2.2.2.2.2.2.2.1 k0_t2 k0_h52
theorem k0_off33_inb : ∀ (i : grid0.Coords) (v1 : BitVec 32) (k0_hw1 : k0_chk1 i v1) (k0_t2 : Fin (k0_t2_loop v1).trips), ∀ (k0_h56 : k0_cond56 v1 k0_t2 = 1#1), ∀ (k0_h57 : k0_cond57 v1 k0_t2 = 1#1), ∀ a, (k0_off33 i v1 k0_t2) a + S1x256x1024.size a ≤ S16x4096x1024.size a := fun i v1 k0_hw1 k0_t2 k0_h56 k0_h57 => k0_hw1.1.2.2.2.2.2.2.2.2.2.2.2.2.2.2.2.2.2.2.2.2.2.2.2.2.2.2.1 k0_t2 k0_h56 k0_h57
theorem k0_off34_inb : ∀ (i : grid0.Coords) (v1 : BitVec 32) (k0_hw1 : k0_chk1 i v1) (k0_t2 : Fin (k0_t2_loop v1).trips), ∀ (k0_h56 : k0_cond56 v1 k0_t2 = 1#1), ∀ a, (k0_off34 i v1 k0_t2) a + S1x256x1024.size a ≤ S16x4096x1024.size a := fun i v1 k0_hw1 k0_t2 k0_h56 => k0_hw1.1.2.2.2.2.2.2.2.2.2.2.2.2.2.2.2.2.2.2.2.2.2.2.2.2.2.2.2.1 k0_t2 k0_h56
theorem k0_off35_inb : ∀ (i : grid0.Coords) (v1 : BitVec 32) (k0_hw1 : k0_chk1 i v1) (k0_t2 : Fin (k0_t2_loop v1).trips), ∀ (k0_h60 : k0_cond60 v1 k0_t2 = 1#1), ∀ (k0_h61 : k0_cond61 v1 k0_t2 = 1#1), ∀ a, (k0_off35 i v1 k0_t2) a + S1x256x1024.size a ≤ S16x4096x1024.size a := fun i v1 k0_hw1 k0_t2 k0_h60 k0_h61 => k0_hw1.1.2.2.2.2.2.2.2.2.2.2.2.2.2.2.2.2.2.2.2.2.2.2.2.2.2.2.2.2.1 k0_t2 k0_h60 k0_h61
theorem k0_off36_inb : ∀ (i : grid0.Coords) (v1 : BitVec 32) (k0_hw1 : k0_chk1 i v1) (k0_t2 : Fin (k0_t2_loop v1).trips), ∀ (k0_h60 : k0_cond60 v1 k0_t2 = 1#1), ∀ a, (k0_off36 i v1 k0_t2) a + S1x256x1024.size a ≤ S16x4096x1024.size a := fun i v1 k0_hw1 k0_t2 k0_h60 => k0_hw1.1.2.2.2.2.2.2.2.2.2.2.2.2.2.2.2.2.2.2.2.2.2.2.2.2.2.2.2.2.2.1 k0_t2 k0_h60
theorem k0_off37_inb : ∀ (i : grid0.Coords) (v1 : BitVec 32) (k0_hw1 : k0_chk1 i v1) (k0_t2 : Fin (k0_t2_loop v1).trips), ∀ (k0_h64 : k0_cond64 v1 k0_t2 = 1#1), ∀ (k0_h65 : k0_cond65 v1 k0_t2 = 1#1), ∀ a, (k0_off37 i v1 k0_t2) a + S1x256x1024.size a ≤ S16x4096x1024.size a := fun i v1 k0_hw1 k0_t2 k0_h64 k0_h65 => k0_hw1.1.2.2.2.2.2.2.2.2.2.2.2.2.2.2.2.2.2.2.2.2.2.2.2.2.2.2.2.2.2.2.1 k0_t2 k0_h64 k0_h65
theorem k0_off38_inb : ∀ (i : grid0.Coords) (v1 : BitVec 32) (k0_hw1 : k0_chk1 i v1) (k0_t2 : Fin (k0_t2_loop v1).trips), ∀ (k0_h64 : k0_cond64 v1 k0_t2 = 1#1), ∀ a, (k0_off38 i v1 k0_t2) a + S1x256x1024.size a ≤ S16x4096x1024.size a := fun i v1 k0_hw1 k0_t2 k0_h64 => k0_hw1.1.2.2.2.2.2.2.2.2.2.2.2.2.2.2.2.2.2.2.2.2.2.2.2.2.2.2.2.2.2.2.2 k0_t2 k0_h64
theorem k0_off39_inb : ∀ (i : grid0.Coords) (v1 : BitVec 32) (k0_hw1 : k0_chk1 i v1) (k0_t2 : Fin (k0_t2_loop v1).trips), ∀ (k0_h68 : k0_cond68 v1 k0_t2 = 1#1), ∀ (k0_h69 : k0_cond69 v1 k0_t2 = 1#1), ∀ a, (k0_off39 i v1 k0_t2) a + S1x256x1024.size a ≤ S16x4096x1024.size a := fun i v1 k0_hw1 k0_t2 k0_h68 k0_h69 => k0_hw1.2.1 k0_t2 k0_h68 k0_h69
theorem k0_off40_inb : ∀ (i : grid0.Coords) (v1 : BitVec 32) (k0_hw1 : k0_chk1 i v1) (k0_t2 : Fin (k0_t2_loop v1).trips), ∀ (k0_h68 : k0_cond68 v1 k0_t2 = 1#1), ∀ a, (k0_off40 i v1 k0_t2) a + S1x256x1024.size a ≤ S16x4096x1024.size a := fun i v1 k0_hw1 k0_t2 k0_h68 => k0_hw1.2.2 k0_t2 k0_h68

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S16x4096x1024 : Shape := ⟨3, ![16, 4096, 1024]⟩
abbrev S16 : Shape := ⟨1, ![16]⟩
abbrev S_ : Shape := ⟨0, ![]⟩
abbrev S4096 : Shape := ⟨1, ![4096]⟩
abbrev S1x4096 : Shape := ⟨2, ![1, 4096]⟩
abbrev S16x1 : Shape := ⟨2, ![16, 1]⟩
abbrev S16x4096 : Shape := ⟨2, ![16, 4096]⟩
abbrev S16x4096x1 : Shape := ⟨3, ![16, 4096, 1]⟩
abbrev S16x1024 : Shape := ⟨2, ![16, 1024]⟩
abbrev S1024 : Shape := ⟨1, ![1024]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16, .i32⟩
  | .hbm, ⟨2, _⟩ => ⟨S_, .i32⟩
  | .hbm, ⟨3, _⟩ => ⟨S4096, .i32⟩
  | .hbm, ⟨4, _⟩ => ⟨S1x4096, .i32⟩
  | .hbm, ⟨5, _⟩ => ⟨S16x1, .i32⟩
  | .hbm, ⟨6, _⟩ => ⟨S16x4096, .i32⟩
  | .hbm, ⟨7, _⟩ => ⟨S16x4096, .i32⟩
  | .hbm, ⟨8, _⟩ => ⟨S16x4096, .i1⟩
  | .hbm, ⟨9, _⟩ => ⟨S16x4096x1, .i1⟩
  | .hbm, ⟨10, _⟩ => ⟨S_, .f32⟩
  | .hbm, ⟨11, _⟩ => ⟨S16x4096x1024, .i1⟩
  | .hbm, ⟨12, _⟩ => ⟨S16x4096x1024, .f32⟩
  | .hbm, ⟨13, _⟩ => ⟨S16x4096x1024, .f32⟩
  | .hbm, ⟨14, _⟩ => ⟨S_, .f32⟩
  | .hbm, ⟨15, _⟩ => ⟨S16x1024, .f32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S16x1, .i1⟩
  | .hbm, ⟨20, _⟩ => ⟨S_, .f32⟩
  | .hbm, ⟨21, _⟩ => ⟨S1024, .f32⟩
  | .hbm, ⟨22, _⟩ => ⟨S16x1024, .i1⟩
  | .hbm, ⟨23, _⟩ => ⟨S16x1024, .f32⟩
  | .hbm, ⟨24, _⟩ => ⟨S16x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_call1_v0 : Ref sig .tc := ⟨.hbm, 22, rfl⟩
abbrev main_call1_v1 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Proof.Within.lean ====
/-
  What the precondition says: no row count exceeds the padded length of 4096 rows.
-/
module

public import proofs.«01_k».proof.Proof.Gen.Pre_within
public import Idealize.ShloMosaic.Lib.ReduceAll
public import Idealize.ShloMosaic.Lib.Affine

@[expose] public section

namespace Cert.Proof

open Idealize.ShloMosaic Cert.Pre_within Cert.Pre_within.Gen

variable {F : FTy → Type} [FloatOps F]

/-- Where the printed predicate holds, every row count, read as a signed number, is at most 4096. -/
theorem counts_le (a0 : FVec F S16x4096x1024 .f32) (a1 : IVec S16 32) (a2 : IVec S_ 32)
    (h : Cert.Pre_within.fn (F := F) a0 a1 a2 = fun _ => 1#1) (b : S16.Idx) : (a1 b).toInt ≤ 4096 := by
  have h1 := congrFun h (fun a => a.elim0)
  dsimp only [Cert.Pre_within.fn] at h1
  have h2 : IntOp.cmpi .sle (a1 b) 4096#32 = 1#1 := Host.reduce_andi_all _ _ _ _ _ h1 b
  simp only [IntOp.cmpi, BitVec.sle] at h2
  rcases lt_or_ge 4096 (a1 b).toInt with h3 | h3
  · rw [show (4096#32 : BitVec 32).toInt = 4096 from by decide, decide_eq_false (by omega)] at h2
    exact absurd h2 (by decide)
  · exact h3

end Cert.Proof

end
-- ==== Proof.Reference.lean ====
/-
  What the reference computes when floats are extended reals, at one block and one feature: zero if the block has no
  sentence, and otherwise the greatest entry of its sentences.
-/
module

public import proofs.«01_k».proof.Proof.Gen.ReferenceIdeal.Run
public import Idealize.ShloMosaic.Lib.Pointwise
public import Idealize.ShloMosaic.PureOps.Ideal.Laws

@[expose] public section

noncomputable section

namespace Cert.ReferenceIdeal.Value

open Cert.ReferenceIdeal Cert.ReferenceIdeal.Gen Idealize.ShloMosaic Idealize.ShloMosaic.TcCoe

/-- The reference's result as the composed term of its operations over the two inputs it reads. -/
def pooled (x : FVec Ideal S16x4096x1024 .f32) (n : IVec S16 32) : FVec Ideal S16x1024 .f32 :=
  select (broadcastInDim S16x1024 ![0, 1] bcast_S16x1_S16x1024_0_1 (broadcastInDim S16x1 ![0] bcast_S16_S16x1_0 (cmpi .sgt n (broadcastInDim S16 ![] bcast_S_S16 (constantI S_ 32 0#32)))))
    (Host.reduce FloatOps.maximumf
      (select
        (broadcastInDim S16x4096x1024 ![0, 1, 2] bcast_S16x4096x1_S16x4096x1024_0_1_2 (broadcastInDim S16x4096x1 ![0, 1] bcast_S16x4096_S16x4096x1_0_1
          (cmpi .slt (broadcastInDim S16x4096 ![0, 1] bcast_S1x4096_S16x4096_0_1 (broadcastInDim S1x4096 ![1] bcast_S4096_S1x4096_1 (iotaInDim S4096 32 0)))
            (broadcastInDim S16x4096 ![0, 1] bcast_S16x1_S16x4096_0_1 (broadcastInDim S16x1 ![0] bcast_S16_S16x1_0 n)))))
        x (broadcastInDim S16x4096x1024 ![] bcast_S_S16x4096x1024 (constant (F := Ideal) S_ .f32 0xFF800000#32)))
      (constant (F := Ideal) S_ .f32 0xFF800000#32) reducesTo_S16x4096x1024_S16x1024_d1 h_S_)
    (broadcastInDim S16x1024 ![1] bcast_S1024_S16x1024_1 (broadcastInDim S1024 ![] bcast_S_S1024 (constant (F := Ideal) S_ .f32 0x00000000#32)))

/-- The reference's result at block `b` and feature `f`. -/
theorem pooled_apply (x : FVec Ideal S16x4096x1024 .f32) (n : IVec S16 32) (b : Fin 16) (f : Fin 1024) :
    (pooled x n (ValueIdx.ix2 b f) : EReal)
      = if Scalar.cmpi .sgt (n (ValueIdx.ix1 b)) 0#32 = 1#1
        then Finset.univ.fold max (FloatOps.ofBits (F := Ideal) .f32 0xFF800000#32) fun t : Fin 4096 =>
          if Scalar.cmpi .slt (BitVec.ofNat 32 t.val) (n (ValueIdx.ix1 b)) = 1#1 then x (ValueIdx.ix3 b t f) else FloatOps.ofBits (F := Ideal) .f32 0xFF800000#32
        else 0 := by
  unfold pooled
  pointwise
  rfl

/-- The reference runs, ends with `pooled` of its inputs and leaves them as they were. -/
theorem run_pooled (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = pooled (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  run m ρ

end Cert.ReferenceIdeal.Value

end
-- ==== Proof.Words.lean ====
/-
  The kernel's index arithmetic on 32-bit words: how many chunks of 256 rows a row count has, which of the eight slots a
  chunk goes to, and when a later chunk is asked for. Nothing here speaks of the program.
-/
module

public import Idealize.ShloMosaic.PureOps
public import Idealize.ShloMosaic.Lib.Scf
public import Idealize.ShloMosaic.Lib.Affine
public import Idealize.ShloMosaic.Lib.LoopRemainder
public import Idealize.ShloMosaic.Lib.Routing.Words

@[expose] public section

namespace Cert.Proof.Words

open Idealize.ShloMosaic

/-- The number of 256-row chunks that `n` rows occupy, as the kernel computes it: `floor((n + 255) / 256)` by a truncating
    division that is lowered by one where the signs differ and the remainder is not zero. -/
def chunkWord (n : BitVec 32) : BitVec 32 :=
  let v3 : BitVec 32 := Scalar.subi (Scalar.addi n 256#32) 1#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 256#32 0#32)) (Scalar.extui (Scalar.cmpi .slt 256#32 0#32))
  let v18 : BitVec 1 := Scalar.andi (Scalar.cmpi .ne v9 v14) (Scalar.cmpi .ne (Scalar.remsi v3 256#32) 0#32)
  let v4 : BitVec 32 := Scalar.divsi v3 256#32
  Scalar.select v18 (Scalar.subi v4 1#32) v4

/-- The same number as a natural: `ceil(max(n, 0) / 256)`. -/
def chunks (n : BitVec 32) : ℕ := (n.toInt.toNat + 255) / 256

/-- The condition under which a trip at word `w` takes the slot `p`: `w mod 8 = p`. -/
def slotCond (p w : BitVec 32) : BitVec 1 :=
  let v56 : BitVec 32 := Scalar.select (Scalar.cmpi .eq 8#32 0#32) 1#32 8#32
  let v57 : BitVec 32 := Scalar.remsi w v56
  let v61 : BitVec 1 := Scalar.xori (Scalar.cmpi .slt v57 0#32) (Scalar.cmpi .slt v56 0#32)
  let v62 : BitVec 1 := Scalar.andi v61 (Scalar.cmpi .ne v57 0#32)
  let v64 : BitVec 32 := Scalar.select v62 (Scalar.addi v57 v56) v57
  Scalar.cmpi .ne (Scalar.extui (Scalar.cmpi .eq v64 p)) 0#32

/-- The condition under which a trip at word `w` asks for the chunk seven further on. -/
def nextCond (n w : BitVec 32) : BitVec 1 :=
  Scalar.cmpi .ne (Scalar.extui (Scalar.cmpi .slt (Scalar.subi (Scalar.addi w 8#32) 1#32) (chunkWord n))) 0#32

/-- The condition under which chunk `j` is asked for before the loop. -/
def startCond (n j : BitVec 32) : BitVec 1 :=
  Scalar.cmpi .ne (Scalar.extui (Scalar.cmpi .sgt (chunkWord n) j)) 0#32

/-- A one-bit word widened to 32 bits differs from zero exactly where the bit is set. -/
theorem ne_extui (b : BitVec 1) : Scalar.cmpi .ne (Scalar.extui b) 0#32 = b := by
  revert b; decide

/-- A signed comparison's bit is set exactly where the comparison holds of the signed values. -/
theorem sgt_iff (x y : BitVec 32) : Scalar.cmpi .sgt x y = 1#1 ↔ y.toInt < x.toInt := by
  unfold Scalar.cmpi IntOp.cmpi
  simp only [BitVec.slt]
  by_cases h : y.toInt < x.toInt <;> simp [h]

/-- The same for the comparison below. -/
theorem slt_iff (x y : BitVec 32) : Scalar.cmpi .slt x y = 1#1 ↔ x.toInt < y.toInt := by
  unfold Scalar.cmpi IntOp.cmpi
  simp only [BitVec.slt]
  by_cases h : x.toInt < y.toInt <;> simp [h]

/-- A word whose signed value is a natural is that natural's word. -/
theorem ofInt_of_toInt {x : BitVec 32} {m : ℕ} (h : x.toInt = m) : x = BitVec.ofNat 32 m := by
  apply BitVec.eq_of_toInt_eq
  have := BitVec.toInt_lt (x := x)
  rw [h, BitVec.toInt_eq_toNat_bmod, BitVec.toNat_ofNat, Int.bmod_def]
  split <;> omega

/-- The word of a natural below `2 ^ 31` has that signed value. -/
theorem toInt_ofNat_small {m : ℕ} (h : m < 2 ^ 31) : (BitVec.ofNat 32 m).toInt = m := by
  rw [BitVec.toInt_eq_toNat_bmod, BitVec.toNat_ofNat, Int.bmod_def]
  split <;> omega

/-- For a positive row count within 4096 rows the kernel's word holds the number of chunks. -/
theorem chunkWord_pos {n : BitVec 32} (h0 : 0 < n.toInt) (h : n.toInt ≤ 4096) : chunkWord n = BitVec.ofNat 32 (chunks n) := by
  obtain ⟨m, hm⟩ : ∃ m : ℕ, n.toInt = m := ⟨n.toInt.toNat, by omega⟩
  have hn : n = BitVec.ofNat 32 m := ofInt_of_toInt hm
  have hc : chunks n = (m + 255) / 256 := by unfold chunks; rw [hm]; rfl
  have h3 : Scalar.subi (Scalar.addi n 256#32) 1#32 = BitVec.ofNat 32 (m + 255) := by
    subst hn
    apply BitVec.eq_of_toNat_eq
    simp only [Scalar.subi, Scalar.addi, IntOp.subi, IntOp.addi, BitVec.toNat_sub, BitVec.toNat_add, BitVec.toNat_ofNat]
    omega
  have hs : Scalar.cmpi .sgt (BitVec.ofNat 32 (m + 255)) 0#32 = 1#1 := by
    rw [sgt_iff, toInt_ofNat_small (m := m + 255) (by omega), show (0#32 : BitVec 32).toInt = 0 from by decide]; omega
  have hl : Scalar.cmpi .slt (BitVec.ofNat 32 (m + 255)) 0#32 = 0#1 := by
    have : ¬ Scalar.cmpi .slt (BitVec.ofNat 32 (m + 255)) 0#32 = 1#1 := by
      rw [slt_iff, toInt_ofNat_small (by omega), show (0#32 : BitVec 32).toInt = 0 from by decide]; omega
    revert this; generalize Scalar.cmpi .slt (BitVec.ofNat 32 (m + 255)) 0#32 = b; revert b; decide
  have hd : Scalar.divsi (BitVec.ofNat 32 (m + 255)) 256#32 = BitVec.ofNat 32 ((m + 255) / 256) :=
    Routing.divsi_word .scalar (b := 256) (by omega) (by decide) (by decide)
  unfold chunkWord
  simp only [h3, hs, hl, hd, hc]
  generalize Scalar.cmpi .ne (Scalar.remsi (BitVec.ofNat 32 (m + 255)) 256#32) 0#32 = b
  rw [show Scalar.andi (Scalar.cmpi .ne (Scalar.subi (Scalar.extui 1#1) (Scalar.extui 0#1))
      (Scalar.subi (Scalar.extui (Scalar.cmpi .sgt 256#32 0#32)) (Scalar.extui (Scalar.cmpi .slt 256#32 0#32)))) b = 0#1 from by
    revert b; decide]
  rfl

/-- For a row count that is not positive the kernel's word is not positive. -/
theorem chunkWord_nonpos {n : BitVec 32} (h : n.toInt ≤ 0) : (chunkWord n).toInt ≤ 0 := by
  have h3 : (Scalar.subi (Scalar.addi n 256#32) 1#32).toInt = n.toInt + 255 := by
    have := BitVec.le_toInt (x := n)
    simp only [Scalar.subi, Scalar.addi, IntOp.subi, IntOp.addi, BitVec.toInt_sub, BitVec.toInt_add]
    rw [show (256#32 : BitVec 32).toInt = 256 from by decide, show (1#32 : BitVec 32).toInt = 1 from by decide]
    simp only [Int.bmod_def]
    norm_num
    split_ifs <;> omega
  unfold chunkWord
  generalize Scalar.subi (Scalar.addi n 256#32) 1#32 = v at h3
  have hv := BitVec.le_toInt (x := v)
  have hq : -(2 ^ 23) ≤ v.toInt.tdiv 256 ∧ v.toInt.tdiv 256 ≤ 0 := by
    rw [Int.tdiv_eq_ediv]
    split <;> (try rw [show Int.sign 256 = 1 from rfl]) <;> omega
  have hd : (Scalar.divsi v 256#32).toInt = v.toInt.tdiv 256 := by
    unfold Scalar.divsi IntOp.divsi
    rw [if_neg (by rintro (h | ⟨_, h⟩) <;> exact absurd h (by decide)), BitVec.toInt_sdiv]
    rw [show (256#32 : BitVec 32).toInt = 256 from by decide, Int.bmod_def]
    split <;> omega
  have hs : (Scalar.subi (Scalar.divsi v 256#32) 1#32).toInt = v.toInt.tdiv 256 - 1 := by
    simp only [Scalar.subi, IntOp.subi, BitVec.toInt_sub, hd]
    rw [show (1#32 : BitVec 32).toInt = 1 from by decide, Int.bmod_def]
    split <;> omega
  dsimp only
  generalize Scalar.andi _ _ = b
  have hb : b = 0#1 ∨ b = 1#1 := by revert b; decide
  rcases hb with rfl | rfl
  · change (Scalar.divsi v 256#32).toInt ≤ 0
    omega
  · change (Scalar.subi (Scalar.divsi v 256#32) 1#32).toInt ≤ 0
    omega

/-- Within 4096 rows there are at most 16 chunks. -/
theorem chunks_le {n : BitVec 32} (h : n.toInt ≤ 4096) : chunks n ≤ 16 := by unfold chunks; omega

/-- Without a row there is no chunk. -/
theorem chunks_nonpos {n : BitVec 32} (h : n.toInt ≤ 0) : chunks n = 0 := by unfold chunks; omega

/-- The loop from 0 to the kernel's word by 1 makes one trip per chunk. -/
theorem trips_chunkWord {n : BitVec 32} (h : n.toInt ≤ 4096) : Scf.trips 0#32 (chunkWord n) 1#32 = chunks n := by
  unfold Scf.trips
  rw [show (0#32 : BitVec 32).toInt = 0 from by decide, show (1#32 : BitVec 32).toInt = 1 from by decide]
  have h16 := chunks_le h
  rcases lt_or_ge 0 n.toInt with h0 | h0
  · rw [chunkWord_pos h0 h, toInt_ofNat_small (by omega)]; omega
  · have := chunkWord_nonpos h0
    rw [chunks_nonpos h0]; omega

/-- The loop's induction variable at trip `k` is the word of `k`. -/
theorem iv_eq (k : ℕ) : Scf.iv 0#32 1#32 k = BitVec.ofNat 32 k := by
  unfold Scf.iv; simp

/-- A chunk below six is asked for before the loop exactly where it exists. -/
theorem startCond_iff {n : BitVec 32} (h : n.toInt ≤ 4096) (j : ℕ) (hj : j < 16) :
    startCond n (BitVec.ofNat 32 j) = 1#1 ↔ j < chunks n := by
  unfold startCond
  rw [ne_extui, sgt_iff, toInt_ofNat_small (by omega)]
  have h16 := chunks_le h
  rcases lt_or_ge 0 n.toInt with h0 | h0
  · rw [chunkWord_pos h0 h, toInt_ofNat_small (by omega)]; omega
  · have := chunkWord_nonpos h0
    rw [chunks_nonpos h0]; omega

/-- A trip takes slot `p` exactly where its number is `p` modulo eight. -/
theorem slotCond_iff (p k : ℕ) (hp : p < 8) (hk : k < 16) :
    slotCond (BitVec.ofNat 32 p) (BitVec.ofNat 32 k) = 1#1 ↔ k % 8 = p := by
  have H : ∀ (p : Fin 8) (k : Fin 16), slotCond (BitVec.ofNat 32 p) (BitVec.ofNat 32 k) = 1#1 ↔ k.val % 8 = p.val := by decide +kernel
  exact H ⟨p, hp⟩ ⟨k, hk⟩

/-- A trip asks for the chunk seven further on exactly where it exists. -/
theorem nextCond_iff {n : BitVec 32} (h : n.toInt ≤ 4096) (k : ℕ) (hk : k < 16) :
    nextCond n (BitVec.ofNat 32 k) = 1#1 ↔ k + 7 < chunks n := by
  unfold nextCond
  have hw : Scalar.subi (Scalar.addi (BitVec.ofNat 32 k) 8#32) 1#32 = BitVec.ofNat 32 (k + 7) := by
    apply BitVec.eq_of_toNat_eq
    simp only [Scalar.subi, Scalar.addi, IntOp.subi, IntOp.addi, BitVec.toNat_sub, BitVec.toNat_add, BitVec.toNat_ofNat]
    omega
  rw [ne_extui, hw, slt_iff, toInt_ofNat_small (by omega)]
  have h16 := chunks_le h
  rcases lt_or_ge 0 n.toInt with h0 | h0
  · rw [chunkWord_pos h0 h, toInt_ofNat_small (by omega)]; omega
  · have := chunkWord_nonpos h0
    rw [chunks_nonpos h0]; omega

/-- The first row of chunk `k`. -/
theorem row_eq (k : ℕ) (hk : k < 16) : (Scalar.muli (BitVec.ofNat 32 k) 256#32).toNat = 256 * k := by
  simp only [Scalar.muli, IntOp.muli, BitVec.toNat_mul, BitVec.toNat_ofNat]
  omega

/-- The first row of the chunk seven further on. -/
theorem row_next_eq (k : ℕ) (hk : k < 16) :
    (Scalar.muli (Scalar.subi (Scalar.addi (BitVec.ofNat 32 k) 8#32) 1#32) 256#32).toNat = 256 * (k + 7) := by
  simp only [Scalar.muli, Scalar.subi, Scalar.addi, IntOp.muli, IntOp.subi, IntOp.addi, BitVec.toNat_mul, BitVec.toNat_sub,
    BitVec.toNat_add, BitVec.toNat_ofNat]
  omega

end Cert.Proof.Words
-- ==== Proof.Steps.lean ====
/-
  One slot of a ring of buffers, each filled by a local transfer of its own semaphore. A slot is IDLE (its buffer at
  anything, its semaphore at zero, its share of the array to be read at hand) or BUSY (a transfer of a known value into
  its buffer in flight, which gives all of that back). Stated over any memrefs, any signature and any values.
-/
module

public import Idealize.ShloMosaic.Lib.Transfers
public import Idealize.ShloMosaic.Lib.Memref
public import Idealize.ShloMosaic.Lib.VecWindow
public import Idealize.ShloMosaic.Lib.Tactic

@[expose] public section

noncomputable section

namespace Cert.Proof.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] [CountersIn U]

local notation "𝕄" => MT nD τ sig Unit Val ℕ U ℕ

variable {Λ : Labels} {defs : Defs nD τ sig Val Λ} (𝒱 : Variants) (c : Thread nD τ) (bd : Option 𝒱.V)
variable {α : Type} {Q : α → sProp (MT nD τ sig Unit Val ℕ U ℕ)}
variable {sp sp' : Space} {s : Shape} {e : EltTy}

/-- What the thread owes the machine: nothing, whatever waits it has made. -/
def Debt : sProp 𝕄 := iprop(∃ W, owes c 0 W)

/-- An idle slot: the buffer `dst` at anything, its semaphore at zero, a share of the elements `S` of the array read. -/
def Idle (dst : Memref sig c.2.kind sp' s e) (sem : DmaSem sig) (ℓ : Loc nD τ sig) (S : Finset (Idx ℓ)) (q : PosShare TreeShare)
    (fx : Buf Val ℓ) : sProp 𝕄 :=
  iprop((∃ w, owns c dst fullShare w) ∗ semVal (c, .dma sem) 0 ∗ ℓ ↦[S]{q} fx)

/-- A busy slot: a transfer into `dst` in flight that delivers `val` there and gives back the elements it reads; the rest of
    the share of the array is at hand. -/
def Busy (dst : Memref sig c.2.kind sp' s e) (sem : DmaSem sig) (ℓ : Loc nD τ sig) (S : Finset (Idx ℓ)) (q : PosShare TreeShare)
    (fx : Buf Val ℓ) (val : s.Idx → Val e) : sProp 𝕄 :=
  iprop(∃ I : Finset (Idx ℓ), ⌜I ⊆ S⌝
    ∗ Transfers.Flight countersEmb c (.dma sem) () dst.view.dmaCredit iprop(owns c dst fullShare val ∗ ℓ ↦[I]{q} fx)
    ∗ ℓ ↦[S \ I]{q} fx)

/-- A slot: busy with `val` when `b` holds, idle otherwise. -/
def Slot (b : Prop) [Decidable b] (dst : Memref sig c.2.kind sp' s e) (sem : DmaSem sig) (ℓ : Loc nD τ sig) (S : Finset (Idx ℓ))
    (q : PosShare TreeShare) (fx : Buf Val ℓ) (val : s.Idx → Val e) : sProp 𝕄 :=
  if b then Busy c dst sem ℓ S q fx val else Idle c dst sem ℓ S q fx

/-- A slot whose condition holds is busy. -/
theorem slot_pos {b : Prop} [Decidable b] (h : b) (dst : Memref sig c.2.kind sp' s e) (sem : DmaSem sig) (ℓ : Loc nD τ sig)
    (S : Finset (Idx ℓ)) (q : PosShare TreeShare) (fx : Buf Val ℓ) (val : s.Idx → Val e) :
    (Slot c b dst sem ℓ S q fx val : sProp 𝕄) = Busy c dst sem ℓ S q fx val := if_pos h

/-- A slot whose condition fails is idle. -/
theorem slot_neg {b : Prop} [Decidable b] (h : ¬ b) (dst : Memref sig c.2.kind sp' s e) (sem : DmaSem sig) (ℓ : Loc nD τ sig)
    (S : Finset (Idx ℓ)) (q : PosShare TreeShare) (fx : Buf Val ℓ) (val : s.Idx → Val e) :
    (Slot c b dst sem ℓ S q fx val : sProp 𝕄) = Idle c dst sem ℓ S q fx := if_neg h

/-- Two slots that agree on whether they are busy, and on the value if they are, are the same. -/
theorem slot_congr {b b' : Prop} [Decidable b] [Decidable b'] (hb : b ↔ b') (dst : Memref sig c.2.kind sp' s e) (sem : DmaSem sig)
    (ℓ : Loc nD τ sig) (S : Finset (Idx ℓ)) (q : PosShare TreeShare) (fx : Buf Val ℓ) {val val' : s.Idx → Val e} (hv : b → val = val') :
    (Slot c b dst sem ℓ S q fx val : sProp 𝕄) = Slot c b' dst sem ℓ S q fx val' := by
  by_cases h : b
  · rw [slot_pos c h, slot_pos c (hb.mp h), hv h]
  · rw [slot_neg c h, slot_neg c (fun h' => h (hb.mpr h'))]

/-- Starting the transfer of an idle slot: the program goes on with the slot busy, bringing what `src` reads. -/
theorem wp_start {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig Val Λ c.2) α} {q : PosShare TreeShare} {S : Finset (Idx (src.view.loc c))}
    {fx : Buf Val (src.view.loc c)} (hS : src.view.set ⊆ S) (hn : 0 < s.numel) :
    (Idle c dst sem (src.view.loc c) S q fx : sProp 𝕄)
      ⊢ iprop((Busy c dst sem (src.view.loc c) S q fx (src.view.read Val fx) -∗ wp frame (wpE defs 𝒱 c bd) Set.univ (k ⟨⟩) Q)
          -∗ wp frame (wpE defs 𝒱 c bd) Set.univ (.op (.enqueueDma src (.here dst) (.dma sem) hsrc hdst hsem) k) Q) := by
  unfold Idle owns
  iintro ⟨⟨%w, %f, -, Hd⟩, Hv, Hx⟩ Hk
  ihave Hx := ((pointsTo_split_subset hS).1) $$ Hx
  icases Hx with ⟨Hs, Hr⟩
  iapply (Transfers.wp_dmaLocal countersEmb 𝒱 c bd (via := .same) (Sd := dst.view.set) () dst.view.dmaCredit rfl
    (dst.view.dmaCredit_pos hn) (Finset.Subset.refl _)) $$ [Hs Hd Hv]
  · isplitl [Hs]; · iexact Hs
    isplitl [Hd]; · iexact Hd
    iexact Hv
  iintro HF
  iapply Hk
  unfold Busy
  iexists src.view.set
  isplitr; · ipureintro; exact hS
  isplitl [HF]
  · iapply (Transfers.Flight_mono countersEmb c (D' := iprop(owns c dst fullShare (src.view.read Val fx)
      ∗ (src.view.loc c ↦[src.view.set]{q} fx))) ?_) $$ HF
    unfold owns
    iintro ⟨Hd, Hs⟩
    isplitl [Hd]
    · iexists _
      isplitr
      rotate_left
      · iexact Hd
      · ipureintro
        exact View.read_write_univ _ _
    iexact Hs
  iexact Hr

/-- Waiting for the transfer of a busy slot: the program goes on with the value in the buffer and everything else idle. -/
theorem wp_collect {s' : Shape} {e' : EltTy} {spw : Space} {dst : Memref sig c.2.kind sp' s e} {sem : DmaSem sig}
    {srcw : Memref sig c.2.kind spw s' e'} {hsrc : srcw.view.WordExact} {hdst : dst.view.WordExact}
    {k : PUnit → Prog (TpuEff nD τ sig Val Λ c.2) α} {ℓ : Loc nD τ sig} {q : PosShare TreeShare} {S : Finset (Idx ℓ)}
    {fx : Buf Val ℓ} {val : s.Idx → Val e} :
    iprop(Busy c dst sem ℓ S q fx val ∗ Debt c : sProp 𝕄)
      ⊢ iprop((iprop(owns c dst fullShare val ∗ semVal (c, .dma sem) 0 ∗ (ℓ ↦[S]{q} fx) ∗ Debt c)
            -∗ wp frame (wpE defs 𝒱 c bd) Set.univ (k ⟨⟩) Q)
          -∗ wp frame (wpE defs 𝒱 c bd) Set.univ (.op (.waitDma2 sem srcw dst hsrc hdst) k) Q) := by
  unfold Busy Debt
  iintro ⟨⟨%I, %hI, HF, Hr⟩, ⟨%W, HW⟩⟩ Hk
  iapply (Transfers.wp_waitLocal countersEmb 𝒱 c bd () rfl) $$ [HF HW]
  · isplitl [HF]; · iexact HF
    iexact HW
  iintro ⟨⟨Hd, Hs⟩, Hv, HW⟩
  iapply Hk
  isplitl [Hd]; · iexact Hd
  isplitl [Hv]; · iexact Hv
  isplitl [Hs Hr]
  · iapply ((pointsTo_split_subset hI).2)
    isplitl [Hs]; · iexact Hs
    iexact Hr
  iexists _; iexact HW

/-- Loading the whole of a memref that is owned at `val` reads `val`. -/
theorem wp_loadAll {cs : CoreSpace} {m : Memref sig c.2.kind cs s e} {off : Fin s.rank → ℕ} {inb : ∀ a, off a + s.size a ≤ s.size a}
    {hl : m.view.LoadsAt (Rect.unit off s.size inb).toLoadRect} {k : (s.Idx → Val e) → Prog (TpuEff nD τ sig Val Λ c.2) α}
    {q : PosShare TreeShare} {val : s.Idx → Val e} :
    (owns c m q val : sProp 𝕄)
      ⊢ iprop((owns c m q val -∗ wp frame (wpE defs 𝒱 c bd) Set.univ (k val) Q)
          -∗ wp frame (wpE defs 𝒱 c bd) Set.univ (.op (.load m (Rect.unit off s.size inb).toLoadRect hl) k) Q) := by
  unfold owns
  iintro ⟨%f, %hf, H⟩ Hk
  iapply (wp_load 𝒱 c bd Set.univ (m.view.setOn_subset_set _)) $$ H
  iintro H
  rw [View.readAt_full, hf]
  iapply Hk
  iexists f
  isplitr; · ipureintro; exact hf
  iexact H

/-- Storing the whole of a memref leaves it at what is stored. -/
theorem wp_storeAll {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} {val : s.Idx → Val e} :
    (owns c m fullShare val : sProp 𝕄)
      ⊢ iprop((owns c m fullShare w -∗ wp frame (wpE defs 𝒱 c bd) Set.univ (k ⟨⟩) Q)
          -∗ wp frame (wpE defs 𝒱 c bd) Set.univ (.op (.store m (Rect.unit off s.size inb) w Finset.univ hx hm) k) Q) := by
  unfold owns
  iintro ⟨%f, %hf, H⟩ Hk
  iapply (wp_store 𝒱 c bd Set.univ (S := m.view.set) (f := f)
    (((m.access (Rect.unit off s.size inb)).setOn_subset_set _).trans (m.view.set_slice_subset _))) $$ H
  iintro H
  iapply Hk
  iexists _
  isplitr
  rotate_left
  · iexact H
  · ipureintro
    exact View.read_writes_full m.view f inb w []

end Cert.Proof.Steps

end
-- ==== Proof.Kernel.Counts.lean ====
/-
  The row count that a grid point reads is its own entry of the table of row counts.
-/
module

public import proofs.«01_k».proof.Proof.Kernel.Result

@[expose] public section

noncomputable section

namespace Cert.Kernel.Launch

open Cert.Kernel Cert.Kernel.Gen Cert.Kernel.Ring Cert.Proof
open Idealize.ShloMosaic Idealize.ShloMosaic.TcCoe Idealize.ShloMosaic.Tactic Idealize.SL.Sem

variable {F : FTy → Type} [FloatOps F] [∀ e, Nonempty (Elt F e)]
variable (m : (ℓ : Loc nD τ sig) → Buf (Elt F) ℓ) (ρ : Dev nD → PrngReg)

/-- A grid coordinate keeps its value as a word and as an index. -/
theorem index_word : ∀ b : Fin 16, (Scalar.indexCast (BitVec.ofNat 32 b.val)).toNat + 1 * 0 = b.val := by decide

/-- Grid point `i` reads the row count at place `i`. -/
theorem cnt_eq (c : Dev nD) (i : grid0.Coords) :
    cnt m c i = m ((c : Thread nD τ).loc main_arg1) (ValueIdx.ix1 (i 0)) := by
  show m ((c : Thread nD τ).loc main_arg1) ((Rect.unit (s := S16) (k0_off1 i) S1.size (k0_off1_inb i)).emb (Shape.Idx.first _)) = _
  refine congrArg (m ((c : Thread nD τ).loc main_arg1)) ?_
  funext a
  refine Fin.ext ?_
  fin_cases a
  exact index_word (i 0)

/-- What the array of sentences holds at the launch, read whole. -/
theorem rows_eq (c : Dev nD) : xs.view.read (Elt F) (V m c main_arg0) = m ((c : Thread nD τ).loc main_arg0) := by
  rfl

end Cert.Kernel.Launch

end
-- ==== Proof.KernelIdeal.Check.lean ====
/-
  The bounds the kernel assumes of the row count it loads: the ring's loop runs once per chunk, every chunk it asks for
  lies inside the array, and the remainder loop after it makes no trip.
-/
module

public import proofs.«01_k».proof.Proof.Gen.KernelIdeal
public import proofs.«01_k».proof.Proof.Words

@[expose] public section

noncomputable section

namespace Cert.KernelIdeal.Ring

open Cert.KernelIdeal Cert.Proof Idealize.ShloMosaic

variable (i : grid0.Coords) {v1 : BitVec 32}

/-- Where chunk `j` of the grid point's sentence block starts in the array. -/
def chunkOff (j : ℕ) : Fin 3 → ℕ := ![(i 0).val, 256 * j, 0]

/-- The offsets a trip at word `w` reads its own chunk at. -/
def curOff (w : BitVec 32) : Fin 3 → ℕ := ![(BitVec.ofNat 32 (i 0).val).toNat, (Scalar.muli w 256#32).toNat, 0]

/-- The offsets a trip at word `w` asks for the chunk seven further on at. -/
def nextOff (w : BitVec 32) : Fin 3 → ℕ :=
  ![(BitVec.ofNat 32 (i 0).val).toNat, (Scalar.muli (Scalar.subi (Scalar.addi w 8#32) 1#32) 256#32).toNat, 0]

/-- A grid coordinate is a word as it stands. -/
theorem coord_toNat : (BitVec.ofNat 32 (i 0).val).toNat = (i 0).val := by
  have h : (i 0).val < 16 := (i 0).isLt
  rw [BitVec.toNat_ofNat, Nat.mod_eq_of_lt (by omega)]

/-- Each of the sixteen chunks of a sentence block lies inside the array. -/
theorem chunkOff_inb {j : ℕ} (hj : j < 16) : ∀ a, chunkOff i j a + S1x256x1024.size a ≤ S16x4096x1024.size a := by
  have h : (i 0).val < 16 := (i 0).isLt
  intro a
  fin_cases a
  · show (i 0).val + 1 ≤ 16; omega
  · show 256 * j + 256 ≤ 4096; omega
  · show 0 + 1024 ≤ 1024; omega

/-- Trip `k` reads chunk `k`. -/
theorem curOff_eq {k : ℕ} (hk : k < 16) : curOff i (BitVec.ofNat 32 k) = chunkOff i k := by
  unfold curOff chunkOff
  rw [coord_toNat, Words.row_eq k hk]

/-- Trip `k` asks for chunk `k + 7`. -/
theorem nextOff_eq {k : ℕ} (hk : k < 16) : nextOff i (BitVec.ofNat 32 k) = chunkOff i (k + 7) := by
  unfold nextOff chunkOff
  rw [coord_toNat, Words.row_next_eq k hk]

/-- The ring's loop runs over the chunk words from zero. -/
theorem loop_eq : k0_t1_loop v1 = ⟨0#32, Words.chunkWord v1, 1#32⟩ := by
  show (⟨0#32, Scalar.addi 0#32 (Scalar.muli (Scalar.divsi (Scalar.subi (Words.chunkWord v1) 0#32) 1#32) 1#32), 1#32⟩ : Scf.Loop 32) = _
  rw [Scalar.muli_divsi_one]
  congr 1
  show 0#32 + (Words.chunkWord v1 - 0#32) = _
  simp

/-- The ring's loop runs once per chunk. -/
theorem trips_eq (h : v1.toInt ≤ 4096) : (k0_t1_loop v1).trips = Words.chunks v1 := by
  rw [loop_eq]
  exact Words.trips_chunkWord h

/-- The loop's words do not wrap. -/
theorem loop_ok (h : v1.toInt ≤ 4096) : (k0_t1_loop v1).OK := by
  rw [loop_eq]
  show 0 < (1#32 : BitVec 32).toInt ∧ (0#32 : BitVec 32).toInt + (Scf.trips 0#32 (Words.chunkWord v1) 1#32 : ℕ) * (1#32 : BitVec 32).toInt < 2 ^ 31
  rw [Words.trips_chunkWord h, show (1#32 : BitVec 32).toInt = 1 from by decide, show (0#32 : BitVec 32).toInt = 0 from by decide]
  have := Words.chunks_le h
  omega

/-- A trip of the ring's loop is one of at most sixteen. -/
theorem trip_lt (h : v1.toInt ≤ 4096) (t : Fin (k0_t1_loop v1).trips) : t.val < Words.chunks v1 ∧ t.val < 16 := by
  have h1 : t.val < Words.chunks v1 := t.isLt.trans_eq (trips_eq h)
  exact ⟨h1, h1.trans_le (Words.chunks_le h)⟩

/-- A trip's own chunk lies inside the array. -/
theorem cur_inb (h : v1.toInt ≤ 4096) (t : Fin (k0_t1_loop v1).trips) :
    ∀ a, curOff i (Scf.iv 0#32 1#32 t) a + S1x256x1024.size a ≤ S16x4096x1024.size a := by
  rw [Words.iv_eq, curOff_eq i (trip_lt h t).2]
  exact chunkOff_inb i (trip_lt h t).2

/-- The chunk a trip asks for, where it asks for one, lies inside the array. -/
theorem next_inb (h : v1.toInt ≤ 4096) (t : Fin (k0_t1_loop v1).trips) (hc : Words.nextCond v1 (Scf.iv 0#32 1#32 t) = 1#1) :
    ∀ a, nextOff i (Scf.iv 0#32 1#32 t) a + S1x256x1024.size a ≤ S16x4096x1024.size a := by
  rw [Words.iv_eq] at hc ⊢
  have h1 := (Words.nextCond_iff h t (trip_lt h t).2).mp hc
  rw [nextOff_eq i (trip_lt h t).2]
  exact chunkOff_inb i (h1.trans_le (Words.chunks_le h))

/-- The remainder loop makes no trip. -/
theorem rem_elim {P : Prop} (t : Fin (k0_t2_loop v1).trips) : P := (Scf.rem_no_trip _ _ t).elim

/-- Everything the kernel assumes of the row count it loads holds of a count of at most 4096. -/
theorem chk (h : v1.toInt ≤ 4096) : k0_chk1 i v1 := by
  refine ⟨⟨loop_ok h, ?_⟩, fun t => rem_elim t, fun t => rem_elim t⟩
  refine ⟨fun t _ hc => next_inb i h t hc, fun t _ => cur_inb i h t, fun t _ hc => next_inb i h t hc, fun t _ => cur_inb i h t,
    fun t _ hc => next_inb i h t hc, fun t _ => cur_inb i h t, fun t _ hc => next_inb i h t hc, fun t _ => cur_inb i h t,
    fun t _ hc => next_inb i h t hc, fun t _ => cur_inb i h t, fun t _ hc => next_inb i h t hc, fun t _ => cur_inb i h t,
    fun t _ hc => next_inb i h t hc, fun t _ => cur_inb i h t, fun t _ hc => next_inb i h t hc, fun t _ => cur_inb i h t,
    Scf.rem_ok _ _, ?_⟩
  exact ⟨fun t => rem_elim t, fun t => rem_elim t, fun t => rem_elim t, fun t => rem_elim t, fun t => rem_elim t,
    fun t => rem_elim t, fun t => rem_elim t, fun t => rem_elim t, fun t => rem_elim t, fun t => rem_elim t,
    fun t => rem_elim t, fun t => rem_elim t, fun t => rem_elim t, fun t => rem_elim t⟩

end Cert.KernelIdeal.Ring

end
-- ==== Proof.KernelIdeal.Program.lean ====
/-
  The kernel's program said once: starting a chunk's transfer into a slot, the branch of a trip for one slot, folding a
  chunk into the running maximum. The printed windows are these, over a family of eight buffers and semaphores.
-/
module

public import proofs.«01_k».proof.Proof.Gen.KernelIdeal.Skeleton
public import proofs.«01_k».proof.Proof.KernelIdeal.Check

@[expose] public section

noncomputable section

namespace Cert.KernelIdeal.Ring

open Cert.KernelIdeal Cert.KernelIdeal.Gen Cert.Proof Idealize.ShloMosaic Idealize.ShloMosaic.TcCoe Idealize.SL.Sem

variable {F : FTy → Type} [FloatOps F]

/-- A program of the TensorCore. -/
abbrev TcProg (F : FTy → Type) (α : Type) : Type _ := Prog (TpuEff nD τ sig (Elt F) Λ₀ .tc) α

variable {α : Type}

/-- 256 consecutive rows of one sentence block of the array, as a matrix. -/
abbrev chunkOf (a2 : Memref sig .tc .hbm S16x4096x1024 .f32) (off : Fin 3 → ℕ) (h : ∀ a, off a + S1x256x1024.size a ≤ S16x4096x1024.size a) :
    Memref sig .tc .hbm S256x1024 .f32 :=
  (a2.slice (Rect.unit (s := S16x4096x1024) off S1x256x1024.size h) (fun _ => rfl)).squeeze S256x1024 squeezes_S1x256x1024_S256x1024

/-- Bring the rows at `off` into the buffer `b`, to be told of at the semaphore `s`, if `c` holds; then `k`. -/
def start (c : BitVec 1) (a2 : Memref sig .tc .hbm S16x4096x1024 .f32) (off : Fin 3 → ℕ)
    (h : c = 1#1 → ∀ a, off a + S1x256x1024.size a ≤ S16x4096x1024.size a)
    (b : Memref sig .tc .vmem S256x1024 .f32) (hb : b.IsWhole) (s : DmaSems sig S_) (k : Unit → TcProg F α) : TcProg F α := do
  if hc : c = 1#1 then do
    Prog.lift (.enqueueDma (chunkOf a2 off (h hc)) (.here b) (.dma s.sem) ((View.wordExact_bits rfl).reshape _ _) hb.wordExact ⟨Or.inl rfl, trivial⟩)
    pure ⟨⟩
  else do
    pure ⟨⟩
  k ⟨⟩

/-- Whether the chunk of word `w` reaches past the row count `v1`. -/
def past (v1 w : BitVec 32) : BitVec 1 := Scalar.cmpi .sgt (Scalar.muli (Scalar.addi w 1#32) 256#32) v1

/-- Fold the chunk in the buffer `b` into the accumulator `a3`, if `c` holds, by the update `pay`; then `k`. -/
def fold (c : BitVec 1) (a3 : Memref sig .tc .vmem S1x1x1024 .f32) (b : Memref sig .tc .vmem S256x1024 .f32)
    (pay : Vec F S256x1024 .f32 → Vec F S1x1x1024 .f32 → FVec F S1x1x1024 .f32) (k : Unit → TcProg F α) : TcProg F α := do
  if Scalar.cmpi .ne (Scalar.extui c : BitVec 32) 0#32 = 1#1 then do
    let x : Vec F S256x1024 .f32 ← Prog.lift (.load b (Rect.unit (s := S256x1024) ![0, 0] S256x1024.size inb_S256x1024_S256x1024_0_0).toLoadRect (View.loadsAt_vmem h_S256x1024))
    let y : Vec F S1x1x1024 .f32 ← Prog.lift (.load a3 (Rect.unit (s := S1x1x1024) ![0, 0, 0] S1x1x1024.size inb_S1x1x1024_S1x1x1024_0_0_0).toLoadRect (View.loadsAt_vmem h_S1x1x1024))
    let _ : Vec F S1x1x1024 .f32 ← Prog.lift (.load a3 (Rect.unit (s := S1x1x1024) ![0, 0, 0] S1x1x1024.size inb_S1x1x1024_S1x1x1024_0_0_0).toLoadRect (View.loadsAt_vmem h_S1x1x1024))
    Prog.lift (.store a3 (Rect.unit (s := S1x1x1024) ![0, 0, 0] S1x1x1024.size inb_S1x1x1024_S1x1x1024_0_0_0) (pay x y) Finset.univ (View.stores_vmem_bits_univ h_S1x1x1024 rfl) (.inl rfl))
    pure ⟨⟩
  else do
    pure ⟨⟩
  k ⟨⟩

/-- The branch of a trip at word `w` for one slot (buffer `b`, semaphore `s`): if the trip's chunk lives there (`c`), ask for
    the chunk seven further on in the slot before (buffer `b'`, semaphore `s'`) if there is one (`c'`), wait for the trip's own
    chunk, and fold it, by `pay` where it reaches past the row count and by `pay'` where it doesn't. -/
def branch (a2 : Memref sig .tc .hbm S16x4096x1024 .f32) (a3 : Memref sig .tc .vmem S1x1x1024 .f32)
    (b : Memref sig .tc .vmem S256x1024 .f32) (hb : b.IsWhole) (s : DmaSems sig S_)
    (b' : Memref sig .tc .vmem S256x1024 .f32) (hb' : b'.IsWhole) (s' : DmaSems sig S_) (v1 w : BitVec 32) (c c' : BitVec 1)
    (cur next : Fin 3 → ℕ) (hcur : c = 1#1 → ∀ a, cur a + S1x256x1024.size a ≤ S16x4096x1024.size a)
    (hnext : c = 1#1 → c' = 1#1 → ∀ a, next a + S1x256x1024.size a ≤ S16x4096x1024.size a)
    (pay : Vec F S256x1024 .f32 → Vec F S1x1x1024 .f32 → FVec F S1x1x1024 .f32)
    (pay' : Vec F S256x1024 .f32 → Vec F S1x1x1024 .f32 → FVec F S1x1x1024 .f32)
    (k : Unit → TcProg F α) : TcProg F α :=
  have after : Unit → TcProg F α := fun _ => k ⟨⟩
  if h : c = 1#1 then
    start c' a2 next (hnext h) b' hb' s' fun _ => do
      Prog.lift (.waitDma2 s.sem (chunkOf a2 cur (hcur h)) b ((View.wordExact_bits rfl).reshape _ _) hb.wordExact)
      fold (past v1 w) a3 b pay fun _ => fold (Scalar.xori (past v1 w) 1#1) a3 b pay' fun _ => after ⟨⟩
  else after ⟨⟩

section windows

variable (i : grid0.Coords) (a1 : Memref sig .tc .smem S16 .i32) (h1 : a1.IsWhole) (a2 : Memref sig .tc .hbm S16x4096x1024 .f32)
  (h2 : a2.IsWhole) (a3 : Memref sig .tc .vmem S1x1x1024 .f32) (h3 : a3.IsWhole)
  (b : Fin 8 → Memref sig .tc .vmem S256x1024 .f32) (hb : ∀ p, (b p).IsWhole) (s : Fin 8 → DmaSems sig S_)
  (v1 : BitVec 32) (hw : k0_chk1 i v1) (v20 : BitVec 32) (t : Fin (k0_t1_loop v1).trips)

/-- A whole trip's branch for slot `p` of the family, `q` being the slot before it and `pw` the word of `p`. -/
def trip (hcur : ∀ a, curOff i (Scf.iv 0#32 1#32 t) a + S1x256x1024.size a ≤ S16x4096x1024.size a)
    (hnext : Words.nextCond v1 (Scf.iv 0#32 1#32 t) = 1#1 → ∀ a, nextOff i (Scf.iv 0#32 1#32 t) a + S1x256x1024.size a ≤ S16x4096x1024.size a)
    (p q : Fin 8) (pw : BitVec 32) (k : Unit → TcProg F α) : TcProg F α :=
  branch a2 a3 (b p) (hb p) (s p) (b q) (hb q) (s q) v1 (Scf.iv 0#32 1#32 t) (Words.slotCond pw (Scf.iv 0#32 1#32 t))
    (Words.nextCond v1 (Scf.iv 0#32 1#32 t)) (curOff i (Scf.iv 0#32 1#32 t)) (nextOff i (Scf.iv 0#32 1#32 t)) (fun _ => hcur)
    (fun _ => hnext) (k0_pay1 v1 (Scf.iv 0#32 1#32 t)) k0_pay2 k

variable (hcur : ∀ a, curOff i (Scf.iv 0#32 1#32 t) a + S1x256x1024.size a ≤ S16x4096x1024.size a)
  (hnext : Words.nextCond v1 (Scf.iv 0#32 1#32 t) = 1#1 → ∀ a, nextOff i (Scf.iv 0#32 1#32 t) a + S1x256x1024.size a ≤ S16x4096x1024.size a)

set_option maxRecDepth 65536 in
/-- The first window of a trip is the branches of slots 0 and 1. -/
theorem part1_eq : ∃ x y z, k0_part1 (F := F) i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20 0#32 1#32 t
    = trip i a2 a3 b hb s v1 t hcur hnext 0 7 0#32 fun _ => trip i a2 a3 b hb s v1 t hcur hnext 1 0 1#32 fun _ =>
        .ret ⟨Scf.iv 0#32 1#32 t, x, y, z⟩ := by
  rw [k0_part1_eq_skeleton]
  unfold k0_part1_skel trip branch start fold past
  exact ⟨_, _, _, rfl⟩

set_option maxRecDepth 65536 in
/-- The second window of a trip is the branches of slots 2, 3 and 4. -/
theorem part2_eq (x : BitVec 32) (y : BitVec 1) (z : BitVec 32) :
    ∃ r, k0_part2 (F := F) i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20 t (Scf.iv 0#32 1#32 t) x y z
    = trip i a2 a3 b hb s v1 t hcur hnext 2 1 2#32 fun _ => trip i a2 a3 b hb s v1 t hcur hnext 3 2 3#32 fun _ =>
        trip i a2 a3 b hb s v1 t hcur hnext 4 3 4#32 fun _ => .ret r := by
  rw [k0_part2_eq_skeleton]
  unfold k0_part2_skel trip branch start fold past
  exact ⟨_, rfl⟩

set_option maxRecDepth 65536 in
/-- A trip of the ring's loop: the first window, the second, then the branches of slots 5, 6 and 7. -/
theorem body_eq : ∃ T, k0_t1_body (F := F) i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20 t () = k0_part1 i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20 0#32 1#32 t >>= T
    ∧ ∀ x y z, ∃ T', T ⟨Scf.iv 0#32 1#32 t, x, y, z⟩ = k0_part2 i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20 t (Scf.iv 0#32 1#32 t) x y z >>= T'
      ∧ ∀ r, T' r = trip i a2 a3 b hb s v1 t hcur hnext 5 4 5#32 fun _ => trip i a2 a3 b hb s v1 t hcur hnext 6 5 6#32 fun _ =>
          trip i a2 a3 b hb s v1 t hcur hnext 7 6 7#32 fun _ => .ret () := by
  unfold k0_t1_body trip branch start fold past
  exact ⟨_, rfl, fun x y z => ⟨_, rfl, fun r => rfl⟩⟩

/-- Where chunk `j` of the grid point's sentence block starts, as the starts before the loop compute it. -/
def firstOff (j : ℕ) : Fin 3 → ℕ := ![(BitVec.ofNat 32 (i 0).val).toNat, 256 * j, 0]

/-- It is the place of chunk `j`. -/
theorem firstOff_eq (j : ℕ) : firstOff i j = chunkOff i j := by
  unfold firstOff chunkOff
  rw [coord_toNat]

/-- Before the ring's loop: bring chunk `j` into slot `j` if the row count `v1` has one. -/
def first (p : Fin 8) (h : ∀ a, firstOff i p.val a + S1x256x1024.size a ≤ S16x4096x1024.size a) (jw : BitVec 32) (k : Unit → TcProg F α) :
    TcProg F α :=
  start (Words.startCond v1 jw) a2 (firstOff i p.val) (fun _ => h) (b p) (hb p) (s p) k

/-- Load the accumulator's block, to no purpose, and store `w` in it. -/
def reset (w : Vec F S1x1x1024 .f32 → FVec F S1x1x1024 .f32) (k : Unit → TcProg F α) : TcProg F α := do
  let y : Vec F S1x1x1024 .f32 ← Prog.lift (.load a3 (Rect.unit (s := S1x1x1024) ![0, 0, 0] S1x1x1024.size inb_S1x1x1024_S1x1x1024_0_0_0).toLoadRect (View.loadsAt_vmem h_S1x1x1024))
  Prog.lift (.store a3 (Rect.unit (s := S1x1x1024) ![0, 0, 0] S1x1x1024.size inb_S1x1x1024_S1x1x1024_0_0_0) (w y) Finset.univ (View.stores_vmem_bits_univ h_S1x1x1024 rfl) (.inl rfl))
  k ⟨⟩

set_option maxRecDepth 65536 in
/-- The kernel's first window: load the row count, assume its bounds, fill the accumulator, start the first three chunks. -/
theorem part5_eq (hf : ∀ p : Fin 8, ∀ a, firstOff i p.val a + S1x256x1024.size a ≤ S16x4096x1024.size a) :
    k0_part5 (F := F) i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7)
    = smemLoadElt a1 (Rect.unit (s := S16) (k0_off1 i) S1.size (k0_off1_inb i)) (View.loads_smem_one rfl numel1_S1)
        (Shape.Idx.first (numel1_S1.symm ▸ Nat.one_pos)) fun (v1 : BitVec 32) =>
      .op (.assume (k0_chk1 i v1) (k0_chk1.dec i v1)) fun hw =>
      reset a3 (fun _ => k0_pay34) fun _ =>
      first i a2 b hb s v1 0 (hf 0) 0#32 fun _ => first i a2 b hb s v1 1 (hf 1) 1#32 fun _ => first i a2 b hb s v1 2 (hf 2) 2#32 fun _ =>
        .ret ⟨v1, hw.down, Words.chunkWord v1, Scalar.extui (Scalar.cmpi .sgt (Words.chunkWord v1) 3#32)⟩ := by
  rw [k0_part5_eq_skeleton]
  unfold k0_part5_skel first start reset
  rfl

set_option maxRecDepth 65536 in
/-- The kernel: its first window, the starts of four more chunks, the two loops, and the final selection. -/
theorem root_eq (hf : ∀ p : Fin 8, ∀ a, firstOff i p.val a + S1x256x1024.size a ≤ S16x4096x1024.size a) :
    ∃ T, cc0__tc2_body (F := F) i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) = k0_part5 i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) >>= T
    ∧ ∀ v1 hw, ∃ v48, T ⟨v1, hw, Words.chunkWord v1, Scalar.extui (Scalar.cmpi .sgt (Words.chunkWord v1) 3#32)⟩
      = first i a2 b hb s v1 3 (hf 3) 3#32 fun _ => first i a2 b hb s v1 4 (hf 4) 4#32 fun _ =>
        first i a2 b hb s v1 5 (hf 5) 5#32 fun _ => first i a2 b hb s v1 6 (hf 6) 6#32 fun _ => (do
          Scf.Loop.for (k0_t1_loop v1) (k0_t1_ok i v1 hw) () (k0_t1_body i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw (Words.chunkWord v1))
          Scf.Loop.for (k0_t2_loop v1) (k0_t2_ok i v1 hw) () (k0_t2_body i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw (Words.chunkWord v1) v48)
          let y : Vec F S1x1x1024 .f32 ← Prog.lift (.load a3 (Rect.unit (s := S1x1x1024) ![0, 0, 0] S1x1x1024.size inb_S1x1x1024_S1x1x1024_0_0_0).toLoadRect (View.loadsAt_vmem h_S1x1x1024))
          reset a3 (fun _ => k0_pay13 v1 y) fun _ => .ret ()) := by
  rw [cc0__tc2_body_eq_skeleton]
  unfold cc0__tc2_body_skel first start reset
  exact ⟨_, rfl, fun v1 hw => ⟨_, rfl⟩⟩

end windows

end Cert.KernelIdeal.Ring

end
-- ==== Proof.KernelIdeal.Ring.lean ====
/-
  The ring of eight buffers: which chunk each slot holds before trip `k`, and what a trip's branches do to that. The
  accumulator before trip `k` is the fold of the first `k` chunks.
-/
module

public import proofs.«01_k».proof.Proof.KernelIdeal.Program
public import proofs.«01_k».proof.Proof.Steps
public import Idealize.ShloMosaic.Lib.Pointwise.Index

@[expose] public section

noncomputable section

namespace Cert.KernelIdeal.Ring

open Cert.KernelIdeal Cert.KernelIdeal.Gen Cert.Proof Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U] [CountersIn U]

local notation "𝕄" => MT nD τ sig Unit (Elt F) ℕ U ℕ

/-! ### Values -/

/-- Chunk `j` of the sentence block that grid point `i` works on, from the whole array `X`. -/
def chunkVal (i : grid0.Coords) (X : S16x4096x1024.Idx → Elt F .f32) (j : ℕ) : S256x1024.Idx → Elt F .f32 := fun y =>
  X (ix3 (n0 := 16) (n1 := 4096) (n2 := 1024) (i 0) ⟨(256 * j + (y 0).val) % 4096, Nat.mod_lt _ (by decide)⟩ (y 1))

/-- The accumulator before trip `k`: the chunks before `k` folded, the one that reaches past the row count masked. -/
def acc (i : grid0.Coords) (X : S16x4096x1024.Idx → Elt F .f32) (v1 : BitVec 32) : ℕ → FVec F S1x1x1024 .f32
  | 0 => k0_pay34
  | k + 1 => if past v1 (BitVec.ofNat 32 k) = 1#1 then k0_pay1 v1 (BitVec.ofNat 32 k) (chunkVal i X k) (acc i X v1 k)
      else k0_pay2 (chunkVal i X k) (acc i X v1 k)

/-- Reading 256 rows at the place of chunk `j` reads chunk `j`. -/
theorem chunk_read (i : grid0.Coords) {c : Dev nD} (a2 : Memref sig .tc .hbm S16x4096x1024 .f32) (fx : Buf (Elt F) (a2.view.loc (c : Thread nD τ)))
    {off : Fin 3 → ℕ} (h : ∀ a, off a + S1x256x1024.size a ≤ S16x4096x1024.size a) {j : ℕ} (hj : j < 16) (ho : off = chunkOff i j) :
    (chunkOf a2 off h).view.read (Elt F) fx = chunkVal i (a2.view.read (Elt F) fx) j := by
  subst ho
  funext y
  show a2.view.read (Elt F) fx ((Rect.unit (s := S16x4096x1024) (chunkOff i j) S1x256x1024.size h).emb (Shape.reshapeEquiv _ y)) = _
  unfold chunkVal
  refine congrArg (a2.view.read (Elt F) fx) ?_
  rw [Shape.reshapeEquiv_cons_one (n := 2) (d := ![256, 1024])]
  have hy : (y 0).val < 256 := (y 0).isLt
  funext a
  refine Fin.ext ?_
  fin_cases a
  · show (i 0).val + 1 * 0 = (i 0).val; omega
  · show 256 * j + 1 * (y 0).val = (256 * j + (y 0).val) % 4096
    rw [Nat.mod_eq_of_lt (by omega)]; omega
  · show 0 + 1 * (y 1).val = (y 1).val; omega

/-! ### Which chunk a slot holds -/

/-- The chunk that slot `r` holds, or is next to hold, before trip `k`: the first from `k` on whose remainder by 8 is `r`. -/
def jOf (k r : ℕ) : ℕ := k + (r + 8 - k % 8) % 8

/-- The chunk that slot `r` holds before trip `k` is below `k + 8`. -/
theorem jOf_le (k r : ℕ) : jOf k r < k + 8 := by unfold jOf; omega

/-- The slot of the trip's own chunk. -/
theorem jOf_self {k r : ℕ} (h : k % 8 = r) : jOf k r = k := by unfold jOf; omega

/-- The slot before that of the trip's own chunk is where the chunk seven further on goes. -/
theorem jOf_next {k p q : ℕ} (h : k % 8 = p) (hq : q = (p + 7) % 8) : jOf k q = k + 7 := by unfold jOf; omega

/-- Only there. -/
theorem jOf_lt {k p q r : ℕ} (h : k % 8 = p) (hq : q = (p + 7) % 8) (hr : r < 8) (hne : r ≠ q) : jOf k r < k + 7 := by
  unfold jOf; omega

/-- After the trip its own slot is free. -/
theorem jOf_succ_self {k r : ℕ} (h : k % 8 = r) : jOf (k + 1) r = k + 8 := by unfold jOf; omega

/-- The others stay. -/
theorem jOf_succ {k r : ℕ} (hr : r < 8) (h : k % 8 ≠ r) : jOf (k + 1) r = jOf k r := by unfold jOf; omega

/-- Before the first trip slot `r` is for chunk `r`. -/
theorem jOf_zero {r : ℕ} (hr : r < 8) : jOf 0 r = r := by unfold jOf; omega

/-! ### The slots together -/

section ring

variable (c : Dev nD) (i : grid0.Coords) (a2 : Memref sig .tc .hbm S16x4096x1024 .f32) (a3 : Memref sig .tc .vmem S1x1x1024 .f32)
  (b : Fin 8 → Memref sig .tc .vmem S256x1024 .f32) (hb : ∀ p, (b p).IsWhole) (s : Fin 8 → DmaSems sig S_)
  (fx : Buf (Elt F) (a2.view.loc (c : Thread nD τ))) (v1 : BitVec 32)

/-- Slot `r` of the ring with chunk `j` on its way if `B`, idle otherwise; each slot has a share of the array of its own. -/
def SlotAt (r : Fin 8) (j : ℕ) (B : Prop) [Decidable B] : sProp 𝕄 :=
  Slot (c : Thread nD τ) B (b r) (s r).sem (a2.view.loc (c : Thread nD τ)) a2.view.set (Transfers.shareTok fullShare 8 r) fx
    (chunkVal i (a2.view.read (Elt F) fx) j)

/-- All eight slots, `r` with chunk `J r` on its way if `B r`. -/
def Slots (B : Fin 8 → Prop) [DecidablePred B] (J : Fin 8 → ℕ) : sProp 𝕄 :=
  bigSep Finset.univ fun r => SlotAt (F := F) c i a2 b s fx r (J r) (B r)

/-- Slots that agree on what is on its way are the same. -/
theorem slots_congr {B B' : Fin 8 → Prop} [DecidablePred B] [DecidablePred B'] {J J' : Fin 8 → ℕ}
    (h : ∀ r, (B r ↔ B' r) ∧ (B r → J r = J' r)) :
    (Slots c i a2 b s fx B J : sProp 𝕄) = Slots c i a2 b s fx B' J' :=
  BI.bigSep_congr fun r _ => slot_congr (c : Thread nD τ) (h r).1 _ _ _ _ _ _ fun hr => by rw [(h r).2 hr]

omit [FloatOps F] in
/-- One part kept aside while the other is changed. -/
theorem sep_swap (A A' R : sProp 𝕄) : iprop(A ∗ R) ⊢ iprop(A ∗ (A' -∗ (A' ∗ R))) := by
  iintro ⟨HA, HR⟩
  isplitl [HA]; · iexact HA
  iintro HA
  isplitl [HA]; · iexact HA
  iexact HR

/-- One slot taken out, to be put back changed while the others stay. -/
theorem slots_at {B B' : Fin 8 → Prop} [DecidablePred B] [DecidablePred B'] {J J' : Fin 8 → ℕ} (p : Fin 8)
    (h : ∀ r, r ≠ p → (B r ↔ B' r) ∧ (B r → J r = J' r)) :
    (Slots c i a2 b s fx B J : sProp 𝕄)
      ⊢ iprop(SlotAt c i a2 b s fx p (J p) (B p) ∗ (SlotAt c i a2 b s fx p (J' p) (B' p) -∗ Slots c i a2 b s fx B' J')) := by
  unfold Slots
  rw [← Finset.insert_erase (Finset.mem_univ p), BI.bigSep_insert (Finset.notMem_erase p _), BI.bigSep_insert (Finset.notMem_erase p _)]
  have he : (bigSep (Finset.univ.erase p) fun r => SlotAt (F := F) c i a2 b s fx r (J r) (B r) : sProp 𝕄)
      = bigSep (Finset.univ.erase p) fun r => SlotAt (F := F) c i a2 b s fx r (J' r) (B' r) :=
    BI.bigSep_congr fun r hr => slot_congr (c : Thread nD τ) (h r (Finset.ne_of_mem_erase hr)).1 _ _ _ _ _ _
      fun hB => by rw [(h r (Finset.ne_of_mem_erase hr)).2 hB]
  rw [he]
  exact sep_swap _ _ _

/-- Before the start of chunk `j`: the chunks before it that there are, each in its slot. -/
def Pro (j : ℕ) : sProp 𝕄 := Slots c i a2 b s fx (fun r => r.val < j ∧ r.val < Words.chunks v1) (fun r => r.val)

/-- Before trip `k`: the seven chunks from `k` on, as far as there are any, each in its slot. -/
def Ring (k : ℕ) : sProp 𝕄 := Slots c i a2 b s fx (fun r => jOf k r < k + 7 ∧ jOf k r < Words.chunks v1) (fun r => jOf k r)

/-- Within trip `k`, the chunk seven further on asked for: the eight chunks from `k` on. -/
def Full (k : ℕ) : sProp 𝕄 := Slots c i a2 b s fx (fun r => jOf k r < Words.chunks v1) (fun r => jOf k r)

/-- After the starts before the loop the ring is as before trip 0. -/
theorem pro_ring : (Pro c i a2 b s fx v1 7 : sProp 𝕄) = Ring c i a2 b s fx v1 0 :=
  slots_congr c i a2 b s fx fun r => by
    rw [jOf_zero r.isLt]
    exact ⟨by rw [Nat.zero_add], fun _ => rfl⟩

/-- What a trip runs from: the accumulator, the ring, and nothing owed. -/
def Inv (k : ℕ) : sProp 𝕄 :=
  iprop(owns (c : Thread nD τ) a3 fullShare (acc i (a2.view.read (Elt F) fx) v1 k) ∗ Ring c i a2 b s fx v1 k ∗ Debt (c : Thread nD τ))

end ring

end Cert.KernelIdeal.Ring

end
-- ==== Proof.KernelIdeal.Trip.lean ====
/-
  What the pieces of the program do to the ring: a start before the loop, and the branch of a trip for one slot.
-/
module

public import proofs.«01_k».proof.Proof.KernelIdeal.Ring

@[expose] public section

noncomputable section

namespace Cert.KernelIdeal.Ring

open Cert.KernelIdeal Cert.KernelIdeal.Gen Cert.Proof Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U] [CountersIn U]

local notation "𝕄" => MT nD τ sig Unit (Elt F) ℕ U ℕ

variable (𝒱 : Variants) (bd : Option 𝒱.V) {α : Type} {Q : α → sProp (MT nD τ sig Unit (Elt F) ℕ U ℕ)}
  (c : Dev nD) (i : grid0.Coords) (a2 : Memref sig .tc .hbm S16x4096x1024 .f32) (a3 : Memref sig .tc .vmem S1x1x1024 .f32)
  (b : Fin 8 → Memref sig .tc .vmem S256x1024 .f32) (hb : ∀ p, (b p).IsWhole) (s : Fin 8 → DmaSems sig S_)
  (fx : Buf (Elt F) (a2.view.loc (c : Thread nD τ))) {v1 : BitVec 32}

/-- A chunk's rows are among the array's. -/
theorem chunk_set (off : Fin 3 → ℕ) (h : ∀ a, off a + S1x256x1024.size a ≤ S16x4096x1024.size a) :
    (chunkOf a2 off h).view.set ⊆ a2.view.set := by
  show ((a2.view.slice (Rect.unit (s := S16x4096x1024) off S1x256x1024.size h)).reshape S256x1024 _).set ⊆ _
  rw [View.set_reshape]
  exact a2.view.set_slice_subset _

/-- A chunk has elements. -/
theorem chunk_numel : 0 < S256x1024.numel := Shape.numel_pos fun a => by fin_cases a <;> decide

/-- A start whose condition holds puts its chunk on its way to the idle slot `p`. -/
theorem wp_start_pos {cnd : BitVec 1} (hc : cnd = 1#1) {off : Fin 3 → ℕ} {h : cnd = 1#1 → ∀ a, off a + S1x256x1024.size a ≤ S16x4096x1024.size a}
    (p : Fin 8) {j : ℕ} (hj : j < 16) (ho : off = chunkOff i j) {j' : ℕ} {B B' : Prop} [Decidable B] [Decidable B'] (hB : ¬ B) (hB' : B')
    (k : Unit → TcProg F α) :
    (SlotAt c i a2 b s fx p j' B : sProp 𝕄)
      ⊢ iprop((SlotAt c i a2 b s fx p j B' -∗ wp frame (wpE defs₀ 𝒱 (c : Thread nD τ) bd) Set.univ (k ()) Q)
          -∗ wp frame (wpE defs₀ 𝒱 (c : Thread nD τ) bd) Set.univ (start cnd a2 off h (b p) (hb p) (s p) k) Q) := by
  unfold start SlotAt
  rw [dif_pos hc, slot_neg (c : Thread nD τ) hB, slot_pos (c : Thread nD τ) hB', ← chunk_read i a2 fx (h hc) hj ho]
  exact wp_start 𝒱 (c : Thread nD τ) bd (src := chunkOf a2 off (h hc)) (dst := b p) (fx := fx) (chunk_set a2 off (h hc)) chunk_numel

/-- A start whose condition fails does nothing. -/
theorem start_neg {cnd : BitVec 1} (hc : ¬ cnd = 1#1) {off : Fin 3 → ℕ} {h : cnd = 1#1 → ∀ a, off a + S1x256x1024.size a ≤ S16x4096x1024.size a}
    (p : Fin 8) (k : Unit → TcProg F α) : start cnd a2 off h (b p) (hb p) (s p) k = k () := by
  unfold start
  rw [dif_neg hc]

/-- The start of chunk `p` before the loop. -/
theorem wp_first (h : v1.toInt ≤ 4096) (p : Fin 8) (hf : ∀ a, firstOff i p.val a + S1x256x1024.size a ≤ S16x4096x1024.size a)
    {jw : BitVec 32} (hjw : jw = BitVec.ofNat 32 p.val) {j : ℕ} (hj : p.val = j) (k : Unit → TcProg F α) :
    (Pro c i a2 b s fx v1 j : sProp 𝕄)
      ⊢ iprop((Pro c i a2 b s fx v1 (j + 1) -∗ wp frame (wpE defs₀ 𝒱 (c : Thread nD τ) bd) Set.univ (k ()) Q)
          -∗ wp frame (wpE defs₀ 𝒱 (c : Thread nD τ) bd) Set.univ (first i a2 b hb s v1 p hf jw k) Q) := by
  subst hjw hj
  have hp := p.isLt
  have hiff := Words.startCond_iff h p.val (by omega)
  have hoth : ∀ r : Fin 8, r ≠ p → (((r.val < p.val ∧ r.val < Words.chunks v1) ↔ (r.val < p.val + 1 ∧ r.val < Words.chunks v1))
      ∧ ((r.val < p.val ∧ r.val < Words.chunks v1) → r.val = r.val)) := fun r hr => by
    have : r.val ≠ p.val := fun e => hr (Fin.ext e)
    exact ⟨by omega, fun _ => rfl⟩
  unfold first Pro
  by_cases hj : p.val < Words.chunks v1
  · iintro H Hk
    ihave H := (slots_at c i a2 b s fx p hoth) $$ H
    icases H with ⟨Hp, Hr⟩
    iapply (wp_start_pos 𝒱 bd c i a2 b hb s fx (hiff.mpr hj) p (j := p.val) (by omega) (firstOff_eq i p.val)
      (B := p.val < p.val ∧ p.val < Words.chunks v1) (B' := p.val < p.val + 1 ∧ p.val < Words.chunks v1) (by omega) ⟨by omega, hj⟩ k) $$ Hp
    iintro Hp
    iapply Hk
    iapply Hr
    iexact Hp
  · rw [start_neg a2 b hb s (fun e => hj (hiff.mp e)) p k]
    rw [slots_congr c i a2 b s fx (B' := fun r => r.val < p.val + 1 ∧ r.val < Words.chunks v1) (J' := fun r => r.val) fun r => ⟨by omega, fun _ => rfl⟩]
    iintro H Hk
    iapply Hk
    iexact H

/-- A fold whose condition fails does nothing. -/
theorem fold_neg {cnd : BitVec 1} (hc : ¬ cnd = 1#1) (bf : Memref sig .tc .vmem S256x1024 .f32)
    (pay : Vec F S256x1024 .f32 → Vec F S1x1x1024 .f32 → FVec F S1x1x1024 .f32) (k : Unit → TcProg F α) : fold cnd a3 bf pay k = k () := by
  unfold fold
  rw [Words.ne_extui, if_neg hc]

/-- A fold whose condition holds updates the accumulator by the buffer. -/
theorem wp_fold_pos {cnd : BitVec 1} (hc : cnd = 1#1) (bf : Memref sig .tc .vmem S256x1024 .f32)
    (pay : Vec F S256x1024 .f32 → Vec F S1x1x1024 .f32 → FVec F S1x1x1024 .f32) (k : Unit → TcProg F α)
    (x : S256x1024.Idx → Elt F .f32) (y : S1x1x1024.Idx → Elt F .f32) :
    (iprop(owns (c : Thread nD τ) bf fullShare x ∗ owns (c : Thread nD τ) a3 fullShare y) : sProp 𝕄)
      ⊢ iprop((iprop(owns (c : Thread nD τ) bf fullShare x ∗ owns (c : Thread nD τ) a3 fullShare (pay x y))
            -∗ wp frame (wpE defs₀ 𝒱 (c : Thread nD τ) bd) Set.univ (k ()) Q)
          -∗ wp frame (wpE defs₀ 𝒱 (c : Thread nD τ) bd) Set.univ (fold cnd a3 bf pay k) Q) := by
  unfold fold
  rw [Words.ne_extui, if_pos hc]
  iintro ⟨Hb, Ha⟩ Hk
  iapply (wp_loadAll 𝒱 (c : Thread nD τ) bd (m := bf)) $$ Hb
  iintro Hb
  iapply (wp_loadAll 𝒱 (c : Thread nD τ) bd (m := a3)) $$ Ha
  iintro Ha
  iapply (wp_loadAll 𝒱 (c : Thread nD τ) bd (m := a3)) $$ Ha
  iintro Ha
  iapply (wp_storeAll 𝒱 (c : Thread nD τ) bd (m := a3)) $$ Ha
  iintro Ha
  iapply Hk
  isplitl [Hb]; · iexact Hb
  iexact Ha

/-- Folding the chunk of trip `k` in the buffer `bf` takes the accumulator to what it is before the next trip. -/
theorem wp_folds (k : ℕ) {w : BitVec 32} (hw : w = BitVec.ofNat 32 k) (bf : Memref sig .tc .vmem S256x1024 .f32) (K : Unit → TcProg F α) (X : S16x4096x1024.Idx → Elt F .f32) :
    (iprop(owns (c : Thread nD τ) bf fullShare (chunkVal i X k) ∗ owns (c : Thread nD τ) a3 fullShare (acc i X v1 k)) : sProp 𝕄)
      ⊢ iprop((iprop(owns (c : Thread nD τ) bf fullShare (chunkVal i X k) ∗ owns (c : Thread nD τ) a3 fullShare (acc i X v1 (k + 1)))
            -∗ wp frame (wpE defs₀ 𝒱 (c : Thread nD τ) bd) Set.univ (K ()) Q)
          -∗ wp frame (wpE defs₀ 𝒱 (c : Thread nD τ) bd) Set.univ
            (fold (past v1 w) a3 bf (k0_pay1 v1 w) fun _ => fold (Scalar.xori (past v1 w) 1#1) a3 bf k0_pay2 K) Q) := by
  subst hw
  have hx : ∀ x : BitVec 1, Scalar.xori x 1#1 = 1#1 ↔ ¬ x = 1#1 := by decide
  by_cases hc : past v1 (BitVec.ofNat 32 k) = 1#1
  · rw [show acc i X v1 (k + 1) = k0_pay1 v1 (BitVec.ofNat 32 k) (chunkVal i X k) (acc i X v1 k) from if_pos hc]
    iintro H Hk
    iapply (wp_fold_pos 𝒱 bd c a3 hc bf) $$ H
    iintro H
    rw [fold_neg a3 (fun e => (hx _).mp e hc)]
    iapply Hk
    iexact H
  · rw [show acc i X v1 (k + 1) = k0_pay2 (chunkVal i X k) (acc i X v1 k) from if_neg hc, fold_neg a3 hc]
    exact wp_fold_pos 𝒱 bd c a3 ((hx _).mpr hc) bf _ K _ _

variable (h : v1.toInt ≤ 4096) (t : Fin (k0_t1_loop v1).trips)

include h

/-- Within a trip, asking for the chunk seven further on, if there is one, in the slot before. -/
theorem wp_next (p q : Fin 8) (hp : t.val % 8 = p.val) (hq : q.val = (p.val + 7) % 8) {cur : Prop} (hcur : cur)
    (hnext : cur → Words.nextCond v1 (Scf.iv 0#32 1#32 t) = 1#1 → ∀ a, nextOff i (Scf.iv 0#32 1#32 t) a + S1x256x1024.size a ≤ S16x4096x1024.size a)
    (K : Unit → TcProg F α) :
    (Ring c i a2 b s fx v1 t.val : sProp 𝕄)
      ⊢ iprop((Full c i a2 b s fx v1 t.val -∗ wp frame (wpE defs₀ 𝒱 (c : Thread nD τ) bd) Set.univ (K ()) Q)
          -∗ wp frame (wpE defs₀ 𝒱 (c : Thread nD τ) bd) Set.univ
            (start (Words.nextCond v1 (Scf.iv 0#32 1#32 t)) a2 (nextOff i (Scf.iv 0#32 1#32 t)) (hnext hcur) (b q) (hb q) (s q) K) Q) := by
  have ht := trip_lt h t
  have hj := jOf_next hp hq
  have hle := Words.chunks_le h
  have hiff := Words.nextCond_iff h t.val ht.2
  have hoff : nextOff i (Scf.iv 0#32 1#32 t) = chunkOff i (t.val + 7) := by rw [Words.iv_eq, nextOff_eq i ht.2]
  rw [← Words.iv_eq] at hiff
  unfold Ring Full
  by_cases hn : t.val + 7 < Words.chunks v1
  · have hoth : ∀ r : Fin 8, r ≠ q → ((jOf t.val r.val < t.val + 7 ∧ jOf t.val r.val < Words.chunks v1) ↔ jOf t.val r.val < Words.chunks v1)
        ∧ ((jOf t.val r.val < t.val + 7 ∧ jOf t.val r.val < Words.chunks v1) → jOf t.val r.val = jOf t.val r.val) := fun r hr => by
      have := jOf_lt hp hq r.isLt fun e => hr (Fin.ext e)
      exact ⟨by omega, fun _ => rfl⟩
    iintro H Hk
    ihave H := (slots_at c i a2 b s fx q hoth) $$ H
    icases H with ⟨Hp, Hr⟩
    iapply (wp_start_pos 𝒱 bd c i a2 b hb s fx (hiff.mpr hn) q (j := jOf t.val q.val) (by omega) (by rw [hj]; exact hoff)
      (B := jOf t.val q.val < t.val + 7 ∧ jOf t.val q.val < Words.chunks v1) (B' := jOf t.val q.val < Words.chunks v1) (by omega) (by omega) K) $$ Hp
    iintro Hp
    iapply Hk
    iapply Hr
    iexact Hp
  · rw [start_neg a2 b hb s (fun e => hn (hiff.mp e)) q K]
    rw [slots_congr c i a2 b s fx (B' := fun r => jOf t.val r.val < Words.chunks v1) (J' := fun r => jOf t.val r.val) fun r => ⟨by
      by_cases hr : r = q
      · subst hr; omega
      · have := jOf_lt hp hq r.isLt fun e => hr (Fin.ext e)
        omega, fun _ => rfl⟩]
    iintro H Hk
    iapply Hk
    iexact H

/-- The branch of a trip for the slot its chunk is in takes the trip's state to the next trip's. -/
theorem wp_trip_pos (p q : Fin 8) (hp : t.val % 8 = p.val) (hq : q.val = (p.val + 7) % 8)
    (hcur : ∀ a, curOff i (Scf.iv 0#32 1#32 t) a + S1x256x1024.size a ≤ S16x4096x1024.size a)
    (hnext : Words.nextCond v1 (Scf.iv 0#32 1#32 t) = 1#1 → ∀ a, nextOff i (Scf.iv 0#32 1#32 t) a + S1x256x1024.size a ≤ S16x4096x1024.size a)
    (K : Unit → TcProg F α) :
    (Inv c i a2 a3 b s fx v1 t.val : sProp 𝕄)
      ⊢ iprop((Inv c i a2 a3 b s fx v1 (t.val + 1) -∗ wp frame (wpE defs₀ 𝒱 (c : Thread nD τ) bd) Set.univ (K ()) Q)
          -∗ wp frame (wpE defs₀ 𝒱 (c : Thread nD τ) bd) Set.univ
            (trip i a2 a3 b hb s v1 t hcur hnext p q (BitVec.ofNat 32 p.val) K) Q) := by
  have ht := trip_lt h t
  have hcond : Words.slotCond (BitVec.ofNat 32 p.val) (Scf.iv 0#32 1#32 t) = 1#1 := by
    rw [Words.iv_eq]; exact (Words.slotCond_iff p.val t.val p.isLt ht.2).mpr hp
  have hself := jOf_self hp
  have hsucc := jOf_succ_self hp
  have hoth : ∀ r : Fin 8, r ≠ p → (jOf t.val r.val < Words.chunks v1 ↔ (jOf (t.val + 1) r.val < t.val + 1 + 7 ∧ jOf (t.val + 1) r.val < Words.chunks v1))
      ∧ (jOf t.val r.val < Words.chunks v1 → jOf t.val r.val = jOf (t.val + 1) r.val) := fun r hr => by
    have h1 := jOf_succ r.isLt (k := t.val) (fun e => hr (Fin.ext (e.symm.trans hp)))
    have h2 := jOf_le t.val r.val
    rw [h1]
    exact ⟨by omega, fun _ => rfl⟩
  have hslot : (Full c i a2 b s fx v1 t.val : sProp 𝕄)
      ⊢ iprop(Busy (c : Thread nD τ) (b p) (s p).sem (a2.view.loc (c : Thread nD τ)) a2.view.set (Transfers.shareTok fullShare 8 p) fx
            (chunkVal i (a2.view.read (Elt F) fx) t.val)
          ∗ (Idle (c : Thread nD τ) (b p) (s p).sem (a2.view.loc (c : Thread nD τ)) a2.view.set (Transfers.shareTok fullShare 8 p) fx
            -∗ Ring c i a2 b s fx v1 (t.val + 1))) := by
    have hs := slots_at (F := F) (U := U) c i a2 b s fx p hoth
    unfold SlotAt at hs
    rw [slot_pos (c : Thread nD τ) (show jOf t.val p.val < Words.chunks v1 by omega), hself,
      slot_neg (c : Thread nD τ) (show ¬ (jOf (t.val + 1) p.val < t.val + 1 + 7 ∧ jOf (t.val + 1) p.val < Words.chunks v1) by omega)] at hs
    exact hs
  unfold trip branch Inv
  rw [dif_pos hcond]
  iintro ⟨Ha, HR, HD⟩ Hk
  iapply (wp_next 𝒱 bd c i a2 b hb s fx h t p q hp hq hcond (fun _ => hnext)) $$ HR
  iintro HF
  ihave HF := hslot $$ HF
  icases HF with ⟨Hp, Hr⟩
  iapply (wp_collect 𝒱 (c : Thread nD τ) bd (dst := b p)) $$ [Hp HD]
  · isplitl [Hp]; · iexact Hp
    iexact HD
  iintro ⟨Hb, Hs, Hx, HD⟩
  iapply (wp_folds 𝒱 bd c i a3 t.val (Words.iv_eq t.val) (b p)) $$ [Hb Ha]
  · isplitl [Hb]; · iexact Hb
    iexact Ha
  iintro ⟨Hb, Ha⟩
  iapply Hk
  isplitl [Ha]; · iexact Ha
  isplitr [HD]
  · iapply Hr
    unfold Idle
    isplitl [Hb]; · iexists _; iexact Hb
    isplitl [Hs]; · iexact Hs
    iexact Hx
  iexact HD

/-- A trip's state before its branch for slot `p`: the next trip's once the branch of the trip's own slot is behind. -/
def St (c : Dev nD) (i : grid0.Coords) (a2 : Memref sig .tc .hbm S16x4096x1024 .f32) (a3 : Memref sig .tc .vmem S1x1x1024 .f32)
    (b : Fin 8 → Memref sig .tc .vmem S256x1024 .f32) (s : Fin 8 → DmaSems sig S_)
    (fx : Buf (Elt F) (a2.view.loc (c : Thread nD τ))) (v1 : BitVec 32) (k p : ℕ) : sProp 𝕄 :=
  if p ≤ k % 8 then Inv c i a2 a3 b s fx v1 k else Inv c i a2 a3 b s fx v1 (k + 1)

/-- The branch of a trip for slot `p`, whichever slot the trip's chunk is in. -/
theorem wp_trip (p q : Fin 8) (hq : q.val = (p.val + 7) % 8)
    (hcur : ∀ a, curOff i (Scf.iv 0#32 1#32 t) a + S1x256x1024.size a ≤ S16x4096x1024.size a)
    (hnext : Words.nextCond v1 (Scf.iv 0#32 1#32 t) = 1#1 → ∀ a, nextOff i (Scf.iv 0#32 1#32 t) a + S1x256x1024.size a ≤ S16x4096x1024.size a)
    {pw : BitVec 32} (hpw : pw = BitVec.ofNat 32 p.val) {j : ℕ} (hj : p.val = j) (K : Unit → TcProg F α) :
    (St c i a2 a3 b s fx v1 t.val j : sProp 𝕄)
      ⊢ iprop((St c i a2 a3 b s fx v1 t.val (j + 1) -∗ wp frame (wpE defs₀ 𝒱 (c : Thread nD τ) bd) Set.univ (K ()) Q)
          -∗ wp frame (wpE defs₀ 𝒱 (c : Thread nD τ) bd) Set.univ (trip i a2 a3 b hb s v1 t hcur hnext p q pw K) Q) := by
  subst hpw hj
  have ht := trip_lt h t
  by_cases hp : t.val % 8 = p.val
  · unfold St
    rw [if_pos (by omega), if_neg (by omega)]
    exact wp_trip_pos 𝒱 bd c i a2 a3 b hb s fx h t p q hp hq hcur hnext K
  · have hcond : ¬ Words.slotCond (BitVec.ofNat 32 p.val) (Scf.iv 0#32 1#32 t) = 1#1 := by
      rw [Words.iv_eq]; exact fun e => hp ((Words.slotCond_iff p.val t.val p.isLt ht.2).mp e)
    have hSt : (St c i a2 a3 b s fx v1 t.val p.val : sProp 𝕄) = St c i a2 a3 b s fx v1 t.val (p.val + 1) := by
      unfold St
      by_cases hle : p.val ≤ t.val % 8
      · rw [if_pos hle, if_pos (by omega)]
      · rw [if_neg hle, if_neg (by omega)]
    unfold trip branch
    rw [dif_neg hcond, hSt]
    iintro H Hk
    iapply Hk
    iexact H

end Cert.KernelIdeal.Ring

end
-- ==== Proof.KernelIdeal.Body.lean ====
/-
  The kernel function at one grid point: from idle slots and the row count in the table, the output block ends at the fold
  of the sentence block's chunks (at zero where there are no rows), and the slots are idle again.
-/
module

public import proofs.«01_k».proof.Proof.KernelIdeal.Trip
public import Idealize.ShloMosaic.Lib.LoopRemainder

@[expose] public section

noncomputable section

namespace Cert.KernelIdeal.Ring

open Cert.KernelIdeal Cert.KernelIdeal.Gen Cert.Proof Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] {U : Type} [URA U] [CountersIn U]

local notation "𝕄" => MT nD τ sig Unit (Elt F) ℕ U ℕ

variable (𝒱 : Variants) (bd : Option 𝒱.V)
  (c : Dev nD) (i : grid0.Coords) (a1 : Memref sig .tc .smem S16 .i32) (h1 : a1.IsWhole)
  (a2 : Memref sig .tc .hbm S16x4096x1024 .f32) (h2 : a2.IsWhole) (a3 : Memref sig .tc .vmem S1x1x1024 .f32) (h3 : a3.IsWhole)
  (b : Fin 8 → Memref sig .tc .vmem S256x1024 .f32) (hb : ∀ p, (b p).IsWhole) (s : Fin 8 → DmaSems sig S_)
  (fx : Buf (Elt F) (a2.view.loc (c : Thread nD τ)))

/-- All eight slots idle. -/
def IdleAll : sProp 𝕄 :=
  bigSep Finset.univ fun r : Fin 8 => Idle (c : Thread nD τ) (b r) (s r).sem (a2.view.loc (c : Thread nD τ)) a2.view.set
    (Transfers.shareTok fullShare 8 r) fx

/-- Before any start every slot is idle. -/
theorem pro_zero (v1 : BitVec 32) : (Pro c i a2 b s fx v1 0 : sProp 𝕄) = IdleAll c a2 b s fx := by
  unfold Pro Slots SlotAt IdleAll
  exact BI.bigSep_congr fun r _ => slot_neg (c : Thread nD τ) (by omega) _ _ _ _ _ _ _

/-- After the last trip every slot is idle. -/
theorem ring_end (v1 : BitVec 32) : (Ring c i a2 b s fx v1 (Words.chunks v1) : sProp 𝕄) = IdleAll c a2 b s fx := by
  unfold Ring Slots SlotAt IdleAll
  exact BI.bigSep_congr fun r _ => slot_neg (c : Thread nD τ) (by unfold jOf; omega) _ _ _ _ _ _ _

section trip

variable {v1 : BitVec 32} (h : v1.toInt ≤ 4096) (hw : k0_chk1 i v1) (v20 : BitVec 32) (t : Fin (k0_t1_loop v1).trips)
include h

/-- A trip of the ring's loop takes its state before the trip to that before the next. -/
theorem wp_body :
    (Inv c i a2 a3 b s fx v1 t.val : sProp 𝕄)
      ⊢ wp frame (wpE defs₀ 𝒱 (c : Thread nD τ) bd) Set.univ
          (k0_t1_body i a1 h1 a2 h2 a3 h3 (b 0) (hb 0) (b 1) (hb 1) (b 2) (hb 2) (b 3) (hb 3) (b 4) (hb 4) (b 5) (hb 5)
            (b 6) (hb 6) (b 7) (hb 7) (s 0) (s 1) (s 2) (s 3) (s 4) (s 5) (s 6) (s 7) v1 hw v20 t ())
          (fun _ => Inv c i a2 a3 b s fx v1 (t.val + 1)) := by
  have hcur := cur_inb i h t
  have hnext := next_inb i h t
  have hs : (Inv c i a2 a3 b s fx v1 t.val : sProp 𝕄) = St c i a2 a3 b s fx v1 t.val 0 := (if_pos (Nat.zero_le _)).symm
  have he : (Inv c i a2 a3 b s fx v1 (t.val + 1) : sProp 𝕄) = St c i a2 a3 b s fx v1 t.val 8 := (if_neg (by omega)).symm
  obtain ⟨T, hT, hT'⟩ := body_eq (F := F) i a1 h1 a2 h2 a3 h3 b hb s v1 hw v20 t hcur hnext
  obtain ⟨x, y, z, hxyz⟩ := part1_eq (F := F) i a1 h1 a2 h2 a3 h3 b hb s v1 hw v20 t hcur hnext
  obtain ⟨T', hT'', hlast⟩ := hT' x y z
  obtain ⟨r, hr⟩ := part2_eq (F := F) i a1 h1 a2 h2 a3 h3 b hb s v1 hw v20 t hcur hnext x y z
  have h3' : (St c i a2 a3 b s fx v1 t.val 5 : sProp 𝕄)
      ⊢ wp frame (wpE defs₀ 𝒱 (c : Thread nD τ) bd) Set.univ (T' r) (fun _ => Inv c i a2 a3 b s fx v1 (t.val + 1)) := by
    rw [hlast, he]
    iintro H
    iapply (wp_trip 𝒱 bd c i a2 a3 b hb s fx h t 5 4 rfl hcur hnext (pw := 5#32) rfl (j := 5) rfl _) $$ H
    iintro H
    iapply (wp_trip 𝒱 bd c i a2 a3 b hb s fx h t 6 5 rfl hcur hnext (pw := 6#32) rfl (j := 6) rfl _) $$ H
    iintro H
    iapply (wp_trip 𝒱 bd c i a2 a3 b hb s fx h t 7 6 rfl hcur hnext (pw := 7#32) rfl (j := 7) rfl _) $$ H
    iintro H
    rw [wp_ret]
    imodintro
    iexact H
  have h2' : (St c i a2 a3 b s fx v1 t.val 2 : sProp 𝕄)
      ⊢ wp frame (wpE defs₀ 𝒱 (c : Thread nD τ) bd) Set.univ (T ⟨Scf.iv 0#32 1#32 t, x, y, z⟩) (fun _ => Inv c i a2 a3 b s fx v1 (t.val + 1)) := by
    rw [hT'', hr, wp_bind]
    iintro H
    iapply (wp_trip 𝒱 bd c i a2 a3 b hb s fx h t 2 1 rfl hcur hnext (pw := 2#32) rfl (j := 2) rfl _) $$ H
    iintro H
    iapply (wp_trip 𝒱 bd c i a2 a3 b hb s fx h t 3 2 rfl hcur hnext (pw := 3#32) rfl (j := 3) rfl _) $$ H
    iintro H
    iapply (wp_trip 𝒱 bd c i a2 a3 b hb s fx h t 4 3 rfl hcur hnext (pw := 4#32) rfl (j := 4) rfl _) $$ H
    iintro H
    rw [wp_ret]
    imodintro
    iapply h3' $$ H
  rw [hT, hxyz, wp_bind, hs]
  iintro H
  iapply (wp_trip 𝒱 bd c i a2 a3 b hb s fx h t 0 7 rfl hcur hnext (pw := 0#32) rfl (j := 0) rfl _) $$ H
  iintro H
  iapply (wp_trip 𝒱 bd c i a2 a3 b hb s fx h t 1 0 rfl hcur hnext (pw := 1#32) rfl (j := 1) rfl _) $$ H
  iintro H
  rw [wp_ret]
  imodintro
  iapply h2' $$ H

/-- The two loops: from the ring before trip 0, all chunks folded, and no slot busy. -/
theorem wp_loops {α : Type} {Q : α → sProp 𝕄} (v48 : BitVec 32) (K : Unit → TcProg F α) :
    (Inv c i a2 a3 b s fx v1 0 : sProp 𝕄)
      ⊢ iprop((Inv c i a2 a3 b s fx v1 (Words.chunks v1) -∗ wp frame (wpE defs₀ 𝒱 (c : Thread nD τ) bd) Set.univ (K ()) Q)
          -∗ wp frame (wpE defs₀ 𝒱 (c : Thread nD τ) bd) Set.univ (do
          Scf.Loop.for (k0_t1_loop v1) (k0_t1_ok i v1 hw) () (k0_t1_body i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20)
          Scf.Loop.for (k0_t2_loop v1) (k0_t2_ok i v1 hw) () (k0_t2_body i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20 v48)
          K ()) Q) := by
  have ht : Scf.trips (k0_t1_loop v1).lb (k0_t1_loop v1).ub (k0_t1_loop v1).st = Words.chunks v1 := trips_eq h
  iintro H Hk
  iapply (Scf.wp_for_bind frame (wpE defs₀ 𝒱 (c : Thread nD τ) bd) Set.univ (k0_t1_loop v1).lb (k0_t1_loop v1).ub (k0_t1_loop v1).st
    (k0_t1_ok i v1 hw) () _ (fun k _ => Inv c i a2 a3 b s fx v1 k)
    (fun t _ => wp_body 𝒱 bd c i a1 h1 a2 h2 a3 h3 b hb s fx h hw v20 t)) $$ H
  rw [ht, show (Scf.Loop.for (k0_t2_loop v1) (k0_t2_ok i v1 hw) () (k0_t2_body i a1 h1 a2 h2 a3 h3 (b 0) (hb 0) (b 1) (hb 1) (b 2) (hb 2) (b 3) (hb 3) (b 4) (hb 4) (b 5) (hb 5)
      (b 6) (hb 6) (b 7) (hb 7) (s 0) (s 1) (s 2) (s 3) (s 4) (s 5) (s 6) (s 7) v1 hw v20 v48) : TcProg F Unit) = .ret () from
    Scf.for_eq_ret _ _ _ _ _ _ (Scf.rem_trips _ _)]
  iintro %acc H
  iapply Hk
  iexact H

end trip

/-- Loading the accumulator's block and storing `w` in it. -/
theorem wp_reset {α : Type} {Q : α → sProp 𝕄} (w : Vec F S1x1x1024 .f32 → FVec F S1x1x1024 .f32) (K : Unit → TcProg F α) (y : S1x1x1024.Idx → Elt F .f32) :
    (owns (c : Thread nD τ) a3 fullShare y : sProp 𝕄)
      ⊢ iprop((owns (c : Thread nD τ) a3 fullShare (w y) -∗ wp frame (wpE defs₀ 𝒱 (c : Thread nD τ) bd) Set.univ (K ()) Q)
          -∗ wp frame (wpE defs₀ 𝒱 (c : Thread nD τ) bd) Set.univ (reset a3 w K) Q) := by
  unfold reset
  iintro Ha Hk
  iapply (wp_loadAll 𝒱 (c : Thread nD τ) bd (m := a3)) $$ Ha
  iintro Ha
  iapply (wp_storeAll 𝒱 (c : Thread nD τ) bd (m := a3)) $$ Ha
  iintro Ha
  iapply Hk
  iexact Ha

/-- The row count of the grid point's sentence block, read from the table `ft`. -/
def rows (ft : Buf (Elt F) (a1.view.loc (c : Thread nD τ))) : BitVec 32 :=
  (a1.access (Rect.unit (s := S16) (k0_off1 i) S1.size (k0_off1_inb i))).read (Elt F) ft (Shape.Idx.first (numel1_S1.symm ▸ Nat.one_pos))

/-- The kernel's end: load the accumulator's block and store the selection in it. -/
def last (v1 : BitVec 32) : Unit → TcProg F Unit := fun _ => do
  let y : Vec F S1x1x1024 .f32 ← Prog.lift (.load a3 (Rect.unit (s := S1x1x1024) ![0, 0, 0] S1x1x1024.size inb_S1x1x1024_S1x1x1024_0_0_0).toLoadRect (View.loadsAt_vmem h_S1x1x1024))
  reset a3 (fun _ => k0_pay13 v1 y) fun _ => .ret ()

/-- The kernel function at one grid point. -/
theorem wp_kernel {S : Finset (Idx (a1.view.loc (c : Thread nD τ)))} (hS : a1.view.set ⊆ S) {q : PosShare TreeShare}
    (ft : Buf (Elt F) (a1.view.loc (c : Thread nD τ))) (h : (rows c i a1 ft).toInt ≤ 4096) :
    (iprop((a1.view.loc (c : Thread nD τ) ↦[S]{q} ft) ∗ (∃ w, owns (c : Thread nD τ) a3 fullShare w) ∗ IdleAll c a2 b s fx ∗ Debt (c : Thread nD τ)) : sProp 𝕄)
      ⊢ wp frame (wpE defs₀ 𝒱 (c : Thread nD τ) bd) Set.univ
          (cc0__tc2_body i a1 h1 a2 h2 a3 h3 (b 0) (hb 0) (b 1) (hb 1) (b 2) (hb 2) (b 3) (hb 3) (b 4) (hb 4) (b 5) (hb 5)
            (b 6) (hb 6) (b 7) (hb 7) (s 0) (s 1) (s 2) (s 3) (s 4) (s 5) (s 6) (s 7))
          (fun _ => iprop((a1.view.loc (c : Thread nD τ) ↦[S]{q} ft)
            ∗ owns (c : Thread nD τ) a3 fullShare (k0_pay13 (rows c i a1 ft)
                (acc i (a2.view.read (Elt F) fx) (rows c i a1 ft) (Words.chunks (rows c i a1 ft))))
            ∗ IdleAll c a2 b s fx ∗ Debt (c : Thread nD τ))) := by
  have hf : ∀ p : Fin 8, ∀ a, firstOff i p.val a + S1x256x1024.size a ≤ S16x4096x1024.size a := fun p => by
    rw [firstOff_eq]; exact chunkOff_inb i (by omega)
  obtain ⟨T, hT, hT'⟩ := root_eq i a1 h1 a2 h2 a3 h3 b hb s hf (F := F)
  obtain ⟨v48, hK⟩ := hT' (rows c i a1 ft) (chk i h)
  rw [hT, part5_eq i a1 h1 a2 h2 a3 h3 b hb s hf, wp_bind, ← pro_zero c i a2 b s fx (rows c i a1 ft)]
  have hlast : (iprop((a1.view.loc (c : Thread nD τ) ↦[S]{q} ft) ∗ owns (c : Thread nD τ) a3 fullShare k0_pay34 ∗ Pro c i a2 b s fx (rows c i a1 ft) 3 ∗ Debt (c : Thread nD τ)) : sProp 𝕄)
      ⊢ wp frame (wpE defs₀ 𝒱 (c : Thread nD τ) bd) Set.univ (T ⟨rows c i a1 ft, chk i h, Words.chunkWord (rows c i a1 ft), Scalar.extui (Scalar.cmpi .sgt (Words.chunkWord (rows c i a1 ft)) 3#32)⟩)
          (fun _ => iprop((a1.view.loc (c : Thread nD τ) ↦[S]{q} ft)
            ∗ owns (c : Thread nD τ) a3 fullShare (k0_pay13 (rows c i a1 ft)
                (acc i (a2.view.read (Elt F) fx) (rows c i a1 ft) (Words.chunks (rows c i a1 ft))))
            ∗ Pro c i a2 b s fx (rows c i a1 ft) 0 ∗ Debt (c : Thread nD τ))) := by
    rw [hK]
    iintro ⟨Ht, Ha, HP, HD⟩
    iapply (wp_first 𝒱 bd c i a2 b hb s fx h 3 (hf 3) (jw := 3#32) rfl (j := 3) rfl _) $$ HP
    iintro HP
    iapply (wp_first 𝒱 bd c i a2 b hb s fx h 4 (hf 4) (jw := 4#32) rfl (j := 4) rfl _) $$ HP
    iintro HP
    iapply (wp_first 𝒱 bd c i a2 b hb s fx h 5 (hf 5) (jw := 5#32) rfl (j := 5) rfl _) $$ HP
    iintro HP
    iapply (wp_first 𝒱 bd c i a2 b hb s fx h 6 (hf 6) (jw := 6#32) rfl (j := 6) rfl _) $$ HP
    iintro HP
    ihave HP := (Entails.of_eq (pro_ring c i a2 b s fx (rows c i a1 ft))) $$ HP
    iapply (wp_loops 𝒱 bd c i a1 h1 a2 h2 a3 h3 b hb s fx h (chk i h) (Words.chunkWord (rows c i a1 ft)) v48 (last a3 (rows c i a1 ft))) $$ [Ha HP HD]
    · unfold Inv
      isplitl [Ha]; · iexact Ha
      isplitl [HP]; · iexact HP
      iexact HD
    unfold Inv last
    iintro ⟨Ha, HR, HD⟩
    iapply (wp_loadAll 𝒱 (c : Thread nD τ) bd (m := a3)) $$ Ha
    iintro Ha
    iapply (wp_reset 𝒱 bd c a3) $$ Ha
    iintro Ha
    rw [wp_ret]
    imodintro
    isplitl [Ht]; · iexact Ht
    isplitl [Ha]; · iexact Ha
    isplitl [HR]
    · iapply (Entails.of_eq ((ring_end c i a2 b s fx (rows c i a1 ft)).trans (pro_zero c i a2 b s fx _).symm)) $$ HR
    iexact HD
  iintro ⟨Ht, ⟨%w, Ha⟩, HP, HD⟩
  iapply (wp_smemLoadElt (m := a1) (r := Rect.unit (s := S16) (k0_off1 i) S1.size (k0_off1_inb i)) (f := ft) 𝒱 (c : Thread nD τ) bd Set.univ ((a1.view.set_slice_subset _).trans hS)) $$ Ht
  iintro Ht
  iapply (wp_assume 𝒱 (c : Thread nD τ) bd Set.univ (chk i h))
  iapply (wp_reset 𝒱 bd c a3) $$ Ha
  iintro Ha
  iapply (wp_first 𝒱 bd c i a2 b hb s fx h 0 (hf 0) (jw := 0#32) rfl (j := 0) rfl _) $$ HP
  iintro HP
  iapply (wp_first 𝒱 bd c i a2 b hb s fx h 1 (hf 1) (jw := 1#32) rfl (j := 1) rfl _) $$ HP
  iintro HP
  iapply (wp_first 𝒱 bd c i a2 b hb s fx h 2 (hf 2) (jw := 2#32) rfl (j := 2) rfl _) $$ HP
  iintro HP
  rw [wp_ret]
  imodintro
  iapply hlast
  isplitl [Ht]; · iexact Ht
  isplitl [Ha]; · iexact Ha
  isplitl [HP]; · iexact HP
  iexact HD

end Cert.KernelIdeal.Ring

end
-- ==== Proof.KernelIdeal.Cells.lean ====
/-
  What the region's invariant holds, as the kernel function wants it: the eight scratch buffers, their semaphores at zero and
  the sentences left in HBM are the eight idle slots of the ring and a left-over share of the sentences.
-/
module

public import proofs.«01_k».proof.Proof.KernelIdeal.Body
public import proofs.«01_k».proof.Proof.Gen.KernelIdeal.Launch
public import Idealize.ShloMosaic.Lib.Pipeline.FrameSuffixV
public import Idealize.ShloMosaic.Lib.Pipeline.FrameSuffix0
public import Idealize.ShloMosaic.Lib.SparseCore.Stream

@[expose] public section

noncomputable section

namespace Cert.KernelIdeal.Ring

open Cert.KernelIdeal Cert.KernelIdeal.Gen Cert.Proof Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The ring's buffers. -/
abbrev bufs : Fin 8 → Memref sig .tc .vmem S256x1024 .f32 :=
  ![Memref.whole cc0_scratch0, Memref.whole cc0_scratch1, Memref.whole cc0_scratch2, Memref.whole cc0_scratch3,
    Memref.whole cc0_scratch4, Memref.whole cc0_scratch5, Memref.whole cc0_scratch6, Memref.whole cc0_scratch7]

/-- Each is a whole buffer. -/
theorem bufs_whole : ∀ p, (bufs p).IsWhole
  | 0 => Memref.isWhole_whole _ | 1 => Memref.isWhole_whole _ | 2 => Memref.isWhole_whole _ | 3 => Memref.isWhole_whole _
  | 4 => Memref.isWhole_whole _ | 5 => Memref.isWhole_whole _ | 6 => Memref.isWhole_whole _ | 7 => Memref.isWhole_whole _

/-- The ring's semaphores, as the kernel is handed them. -/
abbrev sems : Fin 8 → DmaSems sig S_ :=
  ![cc0_scratch8, cc0_scratch9, cc0_scratch10, cc0_scratch11, cc0_scratch12, cc0_scratch13, cc0_scratch14, cc0_scratch15]

/-- The same semaphores by their numbers in the pool. -/
abbrev osem : Fin 8 → SemLoc sig := fun p =>
  (![SemLoc.dma 2, SemLoc.dma 3, SemLoc.dma 4, SemLoc.dma 5, SemLoc.dma 6, SemLoc.dma 7, SemLoc.dma 8, SemLoc.dma 9] : Fin 8 → SemLoc sig) p

/-- The two ways to name a semaphore agree. -/
theorem osem_eq : ∀ p, osem p = .dma (sems p).sem := by decide

/-- They are scoped, distinct, and none completes a block of the pipeline. -/
theorem ownSemFacts : Pipeline.OwnSemFacts spec0 osem := by decide

/-- The scratch buffers, each at some contents, are the ring's buffers. -/
theorem scoped_bufs (c : Dev nD) :
    (Pipeline.scopedRest (Ix := Unit) (Name := ℕ) (U := Pipeline.UD sig nD τ) (Lvl := ℕ) (Val := Elt F) spec0 c : sProp 𝕄)
      = bigSep Finset.univ fun p : Fin 8 => iprop(∃ w, owns (c : Thread nD τ) (bufs p) fullShare w) := by
  rw [scopedRest0_eq, bigSep_univ_eq_bigSepL [(0 : Fin 8), 1, 2, 3, 4, 5, 6, 7] (by decide) (by decide)]
  have e : ∀ b : Ref sig .tc, (iprop(∃ w : b.ty.Contents (Elt F), owns (c : Thread nD τ) (Memref.whole b) fullShare w) : sProp 𝕄)
      = iprop(∃ f : Buf (Elt F) ((c : Thread nD τ).loc b), ((c : Thread nD τ).loc b) ↦{fullShare} f) := fun b => by
    simp only [owns_whole]
  rw [← e cc0_scratch0, ← e cc0_scratch1, ← e cc0_scratch2, ← e cc0_scratch3, ← e cc0_scratch4, ← e cc0_scratch5,
    ← e cc0_scratch6, ← e cc0_scratch7]
  rfl

/-- The semaphores at zero, by the kernel's names. -/
theorem own_sems (c : Dev nD) :
    (Pipeline.ownSems0 (Ix := Unit) (Name := ℕ) (U := Pipeline.UD sig nD τ) (Lvl := ℕ) (Val := Elt F) (τ := τ) osem c : sProp 𝕄)
      = bigSep Finset.univ fun p : Fin 8 => semVal ((c : Thread nD τ), .dma (sems p).sem) 0 := by
  unfold Pipeline.ownSems0
  exact BI.bigSep_congr fun p _ => by rw [osem_eq p]

/-- The sentences, left whole in HBM. -/
abbrev xs : Memref sig .tc .hbm S16x4096x1024 .f32 := Memref.whole main_arg0

/-- The invariant's part held by the ring: buffers, semaphores and the sentences whole. -/
def Held (c : Dev nD) (fx : Buf (Elt F) ((c : Thread nD τ).loc main_arg0)) : sProp 𝕄 :=
  iprop(Pipeline.scopedRest (Ix := Unit) (Name := ℕ) (U := Pipeline.UD sig nD τ) (Lvl := ℕ) (Val := Elt F) spec0 c
    ∗ Pipeline.ownSems0 (Ix := Unit) (Name := ℕ) (U := Pipeline.UD sig nD τ) (Lvl := ℕ) (Val := Elt F) (τ := τ) osem c
    ∗ ((c : Thread nD τ).loc main_arg0) ↦{fullShare} fx)

/-- What is held is eight idle slots and a left-over share of the sentences. -/
theorem held_eq (c : Dev nD) (fx : Buf (Elt F) ((c : Thread nD τ).loc main_arg0)) :
    (Held c fx : sProp 𝕄) ⊣⊢ iprop((((c : Thread nD τ).loc main_arg0) ↦{Transfers.shareDrop fullShare 8} fx)
      ∗ IdleAll c xs bufs sems fx) := by
  have e : (IdleAll c xs bufs sems fx : sProp 𝕄) = iprop((bigSep Finset.univ fun p : Fin 8 => iprop(∃ w, owns (c : Thread nD τ) (bufs p) fullShare w))
      ∗ (bigSep Finset.univ fun p : Fin 8 => semVal ((c : Thread nD τ), .dma (sems p).sem) 0)
      ∗ bigSep Finset.univ fun p : Fin 8 => ((c : Thread nD τ).loc main_arg0) ↦{Transfers.shareTok fullShare 8 p} fx) := by
    unfold IdleAll Idle
    rw [BI.bigSep_sep', BI.bigSep_sep', (Memref.isWhole_whole main_arg0).set_eq_univ]
  unfold Held
  rw [e, scoped_bufs, own_sems]
  constructor
  · iintro ⟨HB, HS, HX⟩
    ihave HX := (Transfers.pointsTo_toks_split fullShare 8) $$ HX
    icases HX with ⟨HD, HT⟩
    isplitl [HD]; · iexact HD
    isplitl [HB]; · iexact HB
    isplitl [HS]; · iexact HS
    iexact HT
  · iintro ⟨HD, HB, HS, HT⟩
    isplitl [HB]; · iexact HB
    isplitl [HS]; · iexact HS
    iapply (Transfers.pointsTo_toks_join fullShare 8)
    isplitl [HD]; · iexact HD
    iexact HT

end Cert.KernelIdeal.Ring

end
-- ==== Proof.KernelIdeal.Launch.lean ====
/-
  The whole program: the pipelined region over the sixteen sentence blocks, its body the kernel function at a point, then the
  host line that reshapes the output. Every execution ends with the inputs as they were, every semaphore at zero and the
  result the reshape of an array whose block `b` is the pooled sentence block `b`.
-/
module

public import proofs.«01_k».proof.Proof.KernelIdeal.Cells
public import Idealize.ShloMosaic.Lib.Claim
public import Idealize.ShloMosaic.Lib.Pipeline.FrameBody

@[expose] public section

noncomputable section

namespace Cert.KernelIdeal.Launch

open Cert.KernelIdeal Cert.KernelIdeal.Gen Cert.KernelIdeal.Ring Cert.Proof Cert.Proof.Steps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (Pipeline.UD sig nD τ) ℕ

variable (m : (ℓ : Loc nD τ sig) → Buf (Elt F) ℓ) (ρ : Dev nD → PrngReg)

/-! ## The region's entry -/

/-- Core `c`'s buffers when the region is entered: no host line runs before it. -/
abbrev V0 (c : Dev nD) : Valuation τ sig (Elt F) := StableHlo.after (List.flatten []) (fun b => m (c, b))
/-- The same at a TensorCore reference. -/
abbrev V (c : Dev nD) (b : Ref sig .tc) : Buf (Elt F) ((c : Thread nD τ).loc b) := V0 m c (Proc.devRef .tc b)

/-- The prefetched table's contents. -/
def tbl : pre0.Contents (Elt F) := fun j => V m (0 : Dev nD) (pre0.ref j)
/-- Every core enters with those. -/
theorem V_pre (c : Dev nD) (j) : V m c (pre0.ref j) = tbl m j := by
  obtain rfl : c = 0 := Subsingleton.elim _ _
  rfl
/-- The table, admitted. -/
abbrev adm : (p : Fin 1) → (pcfgs (F := F) p).Adm := fun | 0 => ⟨tbl m, trivial⟩ | ⟨_ + 1, h⟩ => absurd h (Nat.not_lt.2 (Nat.le_add_left _ _))

/-- The whole table, as the kernel is handed it. -/
abbrev ls : Memref sig .tc .smem S16 .i32 := Memref.whole main_arg1
/-- The number of sentences of block `i`. -/
abbrev cnt (c : Dev nD) (i : grid0.Coords) : BitVec 32 := rows c i ls (V m c main_arg1)
/-- The pooled block: the fold of the chunks that hold a sentence, zero where there is no sentence. -/
abbrev pooled (c : Dev nD) (i : grid0.Coords) : FVec F S1x1x1024 .f32 :=
  k0_pay13 (cnt m c i) (acc i (xs.view.read (Elt F) (V m c main_arg0)) (cnt m c i) (Words.chunks (cnt m c i)))

/-! ## The proof data -/

/-- The invariant between points: the ring's resources and half of the table. -/
def Φ (c : Dev nD) : sProp 𝕄 := iprop(Held c (V m c main_arg0) ∗ Pipeline.ΦT (U := Pipeline.UD sig nD τ) pre0 (tbl m) c)

/-- The proof data: the output's array as the region finds it, its block at point `t` the pooled block, the invariant, full shares,
    nothing owed. -/
def dats (p : Fin 1) (c : Dev nD) : Dat τ (Elt F) Unit ℕ (Pipeline.UD sig nD τ) ℕ (Pipeline.pin (pcfgs (F := F)) (adm m) p) c :=
  match p with
  | 0 =>
    { A := fun w => V m c (Pipeline.arrRef spec0 w)
      after := fun w t => match w with
        | 0 => pooled m c (grid0.coords t)
        | ⟨_ + 1, h⟩ => absurd h (Nat.not_lt.2 (Nat.le_add_left _ _))
      Φ := fun _ => Φ m c
      q := fun _ => fullShare
      owed := fun _ => 0 }
  | ⟨_ + 1, h⟩ => absurd h (Nat.not_lt.2 (Nat.le_add_left _ _))

/-- The table's half, as the kernel reads it. -/
theorem table_eq (c : Dev nD) :
    (Pipeline.ΦT (U := Pipeline.UD sig nD τ) pre0 (tbl m) c : sProp 𝕄)
      = (((c : Thread nD τ).loc main_arg1) ↦{fullShare.right} V m c main_arg1) := by
  unfold Pipeline.ΦT Pipeline.prefHeld
  rw [bigSep_univ_eq_bigSepL [(0 : Fin 1)] (by decide) (by decide)]
  obtain rfl : c = 0 := Subsingleton.elim _ _
  rfl

/-! ## The body -/

/-- The output block's buffer at point `t`. -/
abbrev outM (t : Fin grid0.N) : Memref sig .tc .vmem S1x1x1024 .f32 :=
  spec0_0.stage ((cfg0 (adm (F := F) m 0)).slots t 0)

/-- The kernel function at point `t`, as the region calls it. -/
abbrev bodyAt (t : Fin grid0.N) : Prog (TpuEff nD τ sig (Elt F) Λ₀ .tc) PUnit :=
  cc0__tc2_body (grid0.coords t) ls (Memref.isWhole_whole _) xs (Memref.isWhole_whole _)
    (outM m t) (hstage0_0 (((cfg0 (adm (F := F) m 0)).slots t 0).cast nbuf0_0))
    (bufs 0) (bufs_whole 0) (bufs 1) (bufs_whole 1) (bufs 2) (bufs_whole 2) (bufs 3) (bufs_whole 3)
    (bufs 4) (bufs_whole 4) (bufs 5) (bufs_whole 5) (bufs 6) (bufs_whole 6) (bufs 7) (bufs_whole 7)
    (sems 0) (sems 1) (sems 2) (sems 3) (sems 4) (sems 5) (sems 6) (sems 7)

/-- What the body is called with at point `t`. -/
def bodyPre (c : Dev nD) (t : Fin grid0.N) : sProp 𝕄 :=
  iprop(Φ m c ∗ (dats m 0 c).owesAt () t.castSucc ∗ (∃ d, owns (c : Thread nD τ) (outM m t) fullShare d))
/-- What it returns. -/
def bodyPost (c : Dev nD) (t : Fin grid0.N) : sProp 𝕄 :=
  iprop(Φ m c ∗ (dats m 0 c).owesAt () t.succ ∗ owns (c : Thread nD τ) (outM m t) fullShare (pooled m c (grid0.coords t)))

/-- The body at a point. -/
theorem sound_body (c : Dev nD) (hl : ∀ i, (cnt m c i).toInt ≤ 4096) (t : Fin grid0.N) :
    bodyPre m c t ⊢ wp frame (wpE (defs₀ (F := F)) Variants.none c none) Set.univ (bodyAt m t) (fun _ => bodyPost m c t) := by
  unfold bodyPre bodyPost Φ
  rw [table_eq, show (dats m 0 c).owesAt () t.succ = (dats m 0 c).owesAt () t.castSucc from rfl]
  unfold Dat.owesAt Pipeline.owesWithin
  rw [show (dats m 0 c).owed t.castSucc = 0 from rfl]
  have hk := wp_kernel (U := Pipeline.UD sig nD τ) Variants.none none c (grid0.coords t) ls (Memref.isWhole_whole _) xs (Memref.isWhole_whole _)
    (outM m t) (hstage0_0 (((cfg0 (adm (F := F) m 0)).slots t 0).cast nbuf0_0)) bufs bufs_whole sems (V m c main_arg0)
    (S := Finset.univ) (Finset.subset_univ _) (q := fullShare.right) (V m c main_arg1) (hl _)
  iintro ⟨⟨HX, HT⟩, ⟨%W, %hW, HO⟩, HA⟩
  ihave HX := (held_eq c (V m c main_arg0)).1 $$ HX
  icases HX with ⟨HD, HI⟩
  iapply (wp_wand_r frame (wpE (defs₀ (F := F)) Variants.none c none) Set.univ)
  isplitl [HT HA HI HO]
  · iapply hk
    isplitl [HT]; · iexact HT
    isplitl [HA]; · iexact HA
    isplitl [HI]; · iexact HI
    unfold Debt
    iexists W; iexact HO
  unfold Debt
  iintro %_ ⟨HT, HA, HI, ⟨%W', HO⟩⟩
  isplitl [HD HI HT]
  · isplitl [HD HI]
    · iapply (held_eq c (V m c main_arg0)).2
      isplitl [HD]; · iexact HD
      iexact HI
    iexact HT
  isplitl [HO]
  · iexists W'; isplitr; · ipureintro; exact fun _ _ => Or.inl trivial
    iexact HO
  iexact HA

/-- The body table's row at a point. -/
theorem defs₀_row (t : Fin grid0.N) :
    defs₀ (F := F) .tc (cfg0 (adm (F := F) m 0)).body ((cfg0 (adm (F := F) m 0)).bodyArgs t ((cfg0 (adm (F := F) m 0)).slots t)) = bodyAt m t := by
  unfold defs₀; rw [Defs.onTc_tc]; rfl

/-- A block of the output at known contents is a block at some contents. -/
theorem block_any (c : Dev nD) (t : Fin grid0.N) :
    (iprop(Φ m c ∗ (dats m 0 c).owesAt () t.castSucc ∗ ∃ d, owns (c : Thread nD τ) (outM m t) fullShare ((dats m 0 c).before 0 t d)) : sProp 𝕄)
      ⊢ bodyPre m c t := by
  unfold bodyPre
  iintro ⟨HP, HO, ⟨%d, HA⟩⟩
  isplitl [HP]; · iexact HP
  isplitl [HO]; · iexact HO
  iexists _; iexact HA

/-- The library's body obligation. -/
theorem body_obligation (c : Dev nD) (hl : ∀ i, (cnt m c i).toInt ≤ 4096) :
    BodyObligation (dats (F := F) m 0 c) (defs₀ (F := F)) Variants.none () Set.univ := fun t => by
  rw [bigSep_W0, bigSep_W0]
  exact triple_restated (sound_body m c hl t)
    (congrArg (wp frame (wpE (defs₀ (F := F)) Variants.none (c : Thread nD τ) none) Set.univ) (defs₀_row m t).symm)
    (block_any m c t) fun _ => .rfl

/-! ## The line after the region -/

/-- It touches the region's arrays and the bypassing buffers only. -/
theorem sfx_sub : ∀ ops ∈ ([hostOps1] : List (List (HloOp τ sig (Elt F)))), ∀ op ∈ ops,
    op.bufs ⊆ Pipeline.tailRefs sig pre0 spec0 := by
  intro ops ho op hop
  rw [List.mem_singleton.mp ho] at hop
  refine Pipeline.sub_tailRefs pre0 spec0 op ((List.forall_iff_forall_mem.mp hostOps1_sub) op hop) ?_
  rw [List.mem_singleton.mp hop]
  intro j
  obtain rfl : j = 0 := Subsingleton.elim _ _
  simp only [StableHlo.reshape_bufs, Finset.mem_insert, Finset.mem_singleton, not_or]
  and_intros <;> exact StableHlo.devRef_ne_of_ne (by decide)

/-- It allocates nothing. -/
theorem sfx_fresh : ∀ ops ∈ ([hostOps1] : List (List (HloOp τ sig (Elt F)))), ∀ op ∈ ops, op.fresh = ∅ := by
  intro ops ho op hop
  rw [List.mem_singleton.mp ho] at hop
  rw [List.mem_singleton.mp hop]
  rfl

/-- It writes the result only. -/
theorem sfx_writes : ∀ ops ∈ ([hostOps1] : List (List (HloOp τ sig (Elt F)))), ∀ op ∈ ops,
    op.writes = {Proc.devRef .tc main_v0} := by
  intro ops ho op hop
  rw [List.mem_singleton.mp ho] at hop
  rw [List.mem_singleton.mp hop]
  exact StableHlo.reshape_writes ..

/-- So it leaves the region's array. -/
theorem sfx_keeps : ∀ ops ∈ ([hostOps1] : List (List (HloOp τ sig (Elt F)))), ∀ op ∈ ops,
    ∀ w, Proc.devRef .tc (Pipeline.arrRef spec0 w) ∉ op.writes := by
  intro ops ho op hop w
  rw [sfx_writes ops ho op hop, Finset.mem_singleton]
  obtain rfl : w = 0 := Subsingleton.elim _ _
  exact StableHlo.devRef_ne_of_ne (by decide)

/-- The program is the region continued by that line. -/
theorem hmain : Pipeline.HMainPK (Ix := Unit) (Name := ℕ) (U := Pipeline.UD sig nD τ) (Lvl := ℕ) pcfgs 0 defs₀ Variants.none m
    (main (F := F)) (V m) (fun _ => Pipeline.chain ([hostOps1].map StableHlo.seq)) :=
  Pipeline.hmainP_around pcfgs 0 defs₀ Variants.none m main [] [hostOps1] (by simp only [List.Forall]) (by simp only [List.Forall]) main_chain

/-! ## The invariant at the region's ends -/

/-- The sentences bypass the region and the table. -/
theorem H_sub : ({main_arg0} : Finset (Ref sig .tc)) ⊆ Pipeline.restRefsP sig pre0 spec0 := by decide
/-- No buffer of the kernel's own is written by a transfer. -/
theorem R_sub : (∅ : Finset (Ref sig .tc)) ⊆ Pipeline.restRefsP sig pre0 spec0 \ {main_arg0} := Finset.empty_subset _

/-- What the launch hands the region, with named contents, is what the ring holds. -/
theorem held_named (c : Dev nD) :
    (Pipeline.ΦDRV osem spec0 {main_arg0} ∅ (V m) (V m) c : sProp 𝕄) ⊣⊢ Held c (V m c main_arg0) := by
  unfold Pipeline.ΦDRV Held
  rw [BI.bigSep_singleton, BI.bigSep_empty]
  constructor
  · iintro ⟨HA, HB, HC, -⟩
    isplitl [HA]; · iexact HA
    isplitl [HB]; · iexact HB
    iexact HC
  · iintro ⟨HA, HB, HC⟩
    isplitl [HA]; · iexact HA
    isplitl [HB]; · iexact HB
    isplitl [HC]; · iexact HC
    iempintro

/-- The same where the contents of what the kernel writes by itself are not named. -/
theorem held_some (c : Dev nD) :
    (Pipeline.ΦDR₀ osem spec0 {main_arg0} ∅ (V m) c : sProp 𝕄) ⊣⊢ Held c (V m c main_arg0) := by
  unfold Pipeline.ΦDR₀ Held Pipeline.owned
  rw [BI.bigSep_singleton, BI.bigSep_empty]
  constructor
  · iintro ⟨HA, HB, HC, -⟩
    isplitl [HA]; · iexact HA
    isplitl [HB]; · iexact HB
    iexact HC
  · iintro ⟨HA, HB, HC⟩
    isplitl [HA]; · iexact HA
    isplitl [HB]; · iexact HB
    isplitl [HC]; · iexact HC
    iempintro

/-- The region starts from the invariant. -/
theorem into {P : sProp 𝕄} (c : Dev nD) (h : P ⊣⊢ Held c (V m c main_arg0)) :
    iprop(P ∗ Pipeline.ΦT (U := Pipeline.UD sig nD τ) pre0 (tbl m) c) ⊢ Φ m c := by
  unfold Φ
  iintro ⟨HP, HT⟩
  isplitl [HP]
  · iapply h.1; iexact HP
  iexact HT

/-- And gives it back. -/
theorem back {P : sProp 𝕄} (c : Dev nD) (h : P ⊣⊢ Held c (V m c main_arg0)) : Φ m c ⊢ P := by
  unfold Φ
  iintro ⟨HP, -⟩
  iapply h.2; iexact HP

/-! ## The run -/

set_option backward.isDefEq.respectTransparency.types false in
/-- Every execution ends with every semaphore at zero, the region's array as the points leave it and every buffer outside it and the
    table as the last line leaves it. -/
theorem run_value (hl : ∀ c i, (cnt m c i).toInt ≤ 4096) :
    θ_run defs (onTc (τ := τ) (main (F := F))) (s₀ m ρ) (fun r => (∀ c : Dev nD,
      (∀ w, r.2.mem ((spec0 w).arr.view.loc (c : Thread nD τ)) = (dats m 0 c).arrAt w grid0.N)
      ∧ ∀ b ∈ Pipeline.restRefsP sig pre0 spec0, r.2.mem ((c : Thread nD τ).loc b)
        = StableHlo.after [hostOps1].flatten (Pipeline.withArrays spec0 c (Pipeline.withR (V0 m c) ∅ c (V m c))
            fun w => (dats m 0 c).arrAt w grid0.N) (Proc.devRef .tc b))
      ∧ r.2.sem = fun _ => 0) :=
  Pipeline.θ_run_frameP_dmaR_aroundV (pcfgs (F := F)) (adm m) (dats m) (0 : Fin 1) launch0 osem defs₀ Variants.none ownSemFacts {main_arg0} ∅
    H_sub R_sub m ρ main (fun c => (body_obligation m c (hl c)).loose) (fun c => (dats m 0 c).share_full fun _ => rfl)
    (fun _ _ => rfl) (V0 m) [hostOps1] sfx_sub sfx_fresh sfx_keeps (V m) (hmain m) (fun _ _ => rfl) (V_pre m)
    (fun c => into m c (held_named m c)) (fun c => back m c (held_named m c)) (Q' := _) (hQ' := fun _ h => h)

set_option backward.isDefEq.respectTransparency.types false in
/-- And with every buffer but the region's array and the result unchanged. -/
theorem run_frame (hl : ∀ c i, (cnt m c i).toInt ≤ 4096) :
    θ_run defs (onTc (τ := τ) (main (F := F))) (s₀ m ρ)
      (Pipeline.FramePostR (Pipeline.pin (pcfgs (F := F)) (adm m)) (dats m) 0 (∅ ∪ {main_v0}) (V m)) :=
  Pipeline.θ_run_frameP_dmaR_around₀ (pcfgs (F := F)) (adm m) (dats m) (0 : Fin 1) launch0 osem defs₀ Variants.none ownSemFacts {main_arg0} ∅ {main_v0}
    H_sub R_sub m ρ main (fun c => (body_obligation m c (hl c)).loose) (fun c => (dats m 0 c).share_full fun _ => rfl)
    (fun _ _ => rfl) (V0 m) [hostOps1] sfx_sub sfx_fresh sfx_keeps
    (fun ops ho op hop b hb => by
      rw [sfx_writes ops ho op hop, Finset.mem_singleton] at hb
      exact Finset.mem_singleton.mpr (Proc.devRef_injective _ hb))
    (hmain m) (fun _ _ => rfl) (V_pre m)
    (fun c => into m c (held_some m c)) (fun c => back m c (held_some m c))

end Cert.KernelIdeal.Launch

end
-- ==== Proof.KernelIdeal.Result.lean ====
/-
  What the program leaves: the inputs as they were, every semaphore at zero, and in the result the pooled blocks one after
  the other.
-/
module

public import proofs.«01_k».proof.Proof.KernelIdeal.Launch
public import Idealize.ShloMosaic.Lib.Pipeline.ValueKit
public import Idealize.ShloMosaic.Lib.Pipeline.Covers
public import Idealize.ShloMosaic.Lib.ValueIdx

@[expose] public section

noncomputable section

namespace Cert.KernelIdeal.Launch

open Cert.KernelIdeal Cert.KernelIdeal.Gen Cert.KernelIdeal.Ring Cert.Proof
open Idealize.ShloMosaic Idealize.ShloMosaic.TcCoe Idealize.ShloMosaic.Tactic Idealize.SL.Sem

variable {F : FTy → Type} [FloatOps F] [∀ e, Nonempty (Elt F e)]
variable (m : (ℓ : Loc nD τ sig) → Buf (Elt F) ℓ) (ρ : Dev nD → PrngReg)

/-- The grid point of sentence block `b`. -/
def pt (b : Fin 16) : grid0.Coords := fun a => match a with
  | 0 => b
  | ⟨_ + 1, h⟩ => absurd h (Nat.not_lt.2 (Nat.le_add_left _ _))

/-- The region's array after the last point: block `b` is the pooled sentence block `b`. -/
def blocks (c : Dev nD) : FVec F S16x1x1024 .f32 := fun j => pooled m c (pt (j 0)) (ValueIdx.ix3 0 0 (j 2))

/-- Sixteen blocks along the first axis, one along the others. -/
theorem nblk_eq : ∀ a : Fin 3, ((cfg0 (adm (F := F) m 0)).win 0).nblk a = (![16, 1, 1] : Fin 3 → ℕ) a
  | 0 => by show (16 + 1 - 1) / 1 = 16; decide
  | 1 => by show (1 + 1 - 1) / 1 = 1; decide
  | 2 => by show (1024 + 1024 - 1) / 1024 = 1; decide

/-- The blocks cover the array. -/
theorem covers : ((cfg0 (adm (F := F) m 0)).win 0).Covers :=
  ((cfg0 (adm (F := F) m 0)).win 0).covers_of_indexMap_surj rfl
    (show ∀ a : Fin 3, 0 < S1x1x1024.size a by decide)
    fun β => ⟨pt ⟨(β (0 : Fin 3)).val, (β (0 : Fin 3)).isLt.trans_eq (nblk_eq m 0)⟩, show ∀ a : Fin 3, _ from fun a => match a with
      | 0 => by
        have h := (β (0 : Fin 3)).isLt.trans_eq (nblk_eq m 0)
        change (BitVec.ofNat 32 (β (0 : Fin 3)).val).toNat = _
        rw [BitVec.toNat_ofNat]
        exact Nat.mod_eq_of_lt (lt_trans h (by decide))
      | 1 => by
        have h := (β (1 : Fin 3)).isLt.trans_eq (nblk_eq m 1)
        exact (Nat.lt_one_iff.mp h).symm
      | 2 => by
        have h := (β (2 : Fin 3)).isLt.trans_eq (nblk_eq m 2)
        exact (Nat.lt_one_iff.mp h).symm⟩

/-- An index of one block is its feature. -/
theorem block_idx (y : S1x1x1024.Idx) (f : Fin 1024) (h : f.val = (y 2).val) : y = ValueIdx.ix3 0 0 f := by
  funext a
  match a with
  | 0 => exact Subsingleton.elim (α := Fin 1) _ _
  | 1 => exact Subsingleton.elim (α := Fin 1) _ _
  | 2 => exact Fin.ext h.symm

/-- The region leaves the pooled blocks. -/
theorem arr_eq (c : Dev nD) : (dats m 0 c).arrAt 0 grid0.N = blocks m c := by
  refine (dats m 0 c).arrAt_eq_of_covers 0 _ (covers m) fun t hf y => ?_
  blk_simp
  show pooled m c (grid0.coords t) y = pooled m c (pt _) (ValueIdx.ix3 0 0 _)
  have h0 : ((((Pipeline.pin pcfgs (adm m) 0).win 0).blk t).view.emb y (0 : Fin 3)).val = (grid0.coords t 0).val := by
    blk_simp
    change (BitVec.ofNat 32 (grid0.coords t 0).val).toNat = _
    rw [BitVec.toNat_ofNat]
    exact Nat.mod_eq_of_lt (lt_trans (grid0.coords t 0).isLt (by decide))
  have h2 : ((((Pipeline.pin pcfgs (adm m) 0).win 0).blk t).view.emb y (2 : Fin 3)).val = (y (2 : Fin 3)).val := by
    blk_simp
    change 0 * 1024 + _ = _
    omega
  have hc : grid0.coords t = pt ((((Pipeline.pin pcfgs (adm m) 0).win 0).blk t).view.emb y (0 : Fin 3)) := by
    funext a
    obtain rfl : a = 0 := Subsingleton.elim _ _
    exact Fin.ext h0.symm
  rw [← hc]
  exact congrArg _ (block_idx y _ h2)

/-- What the result holds. -/
def result (c : Dev nD) : FVec F S16x1024 .f32 := fun j => pooled m c (pt (j 0)) (ValueIdx.ix3 0 0 (j 1))

/-- Dropping the unit axis of the blocks gives the result. -/
theorem blocks_cast (c : Dev nD) : shapeCast S16x1024 (blocks m c) shapeCasts_S16x1x1024_S16x1024 = result m c := by
  funext j
  refine (shapeCast_apply (blocks m c) _ j (ValueIdx.ix3 (j 0) 0 (j 1)) ?_).trans rfl
  rw [Shape.rowMajor_val_two, Shape.rowMajor_val_three]
  show ((j 0).val * 1 + 0) * 1024 + (j 1).val = (j 0).val * 1024 + (j 1).val
  omega

/-- The host line makes the result of the region's array. -/
theorem result_eq (c : Dev nD) :
    StableHlo.after [hostOps1].flatten (Pipeline.withArrays spec0 c (Pipeline.withR (V0 m c) ∅ c (V m c))
      fun w => (dats m 0 c).arrAt w grid0.N) (Proc.devRef .tc main_v0) = result m c := by
  rw [show ([hostOps1].flatten : List (HloOp τ sig (Elt F))) = hostOps1 from rfl]
  rw [StableHlo.after_cons, StableHlo.after_nil]
  have h : (Pipeline.withArrays spec0 c (Pipeline.withR (V0 m c) ∅ c (V m c)) fun w => (dats m 0 c).arrAt w grid0.N)
      (Proc.devRef .tc main_call0_v0) = blocks m c :=
    (Pipeline.withArrays_arr spec0 winFacts0.arr_inj c (Pipeline.withR (V0 m c) ∅ c (V m c))
      (fun w => (dats m 0 c).arrAt w grid0.N) 0).trans (arr_eq m c)
  generalize (Pipeline.withArrays spec0 c (Pipeline.withR (V0 m c) ∅ c (V m c)) fun w => (dats m 0 c).arrAt w grid0.N) = W at h ⊢
  refine (StableHlo.reshape_result main_call0_v0 main_v0 rfl shapeCasts_S16x1x1024_S16x1024 _ _ W).trans ?_
  rw [h]
  exact blocks_cast m c

/-- The result and the inputs bypass the region. -/
theorem result_rest : main_v0 ∈ Pipeline.restRefsP sig pre0 spec0 := by decide
/-- The array of sentences is among the buffers that the last host line leaves alone. -/
theorem arg0_rest : main_arg0 ∈ Pipeline.restRefs sig spec0 \ (∅ ∪ {main_v0}) := by decide
/-- The table of row counts is among the buffers that the last host line leaves alone. -/
theorem arg1_rest : main_arg1 ∈ Pipeline.restRefs sig spec0 \ (∅ ∪ {main_v0}) := by decide
/-- The third argument is among the buffers that the last host line leaves alone. -/
theorem arg2_rest : main_arg2 ∈ Pipeline.restRefs sig spec0 \ (∅ ∪ {main_v0}) := by decide

/-- From any memory whose counts are at most 4096, every execution ends with the inputs unchanged, the result at the pooled blocks
    and every semaphore at zero. -/
theorem run (hl : ∀ c i, (cnt m c i).toInt ≤ 4096) :
    θ_run defs (onTc (τ := τ) (main (F := F))) (s₀ m ρ) (fun r => (∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c =>
    ⟨((h.1.1 c).2 main_v0 result_rest).trans (result_eq m c),
      (h.2 c).2 main_arg0 arg0_rest, (h.2 c).2 main_arg1 arg1_rest, (h.2 c).2 main_arg2 arg2_rest⟩, h.1.2⟩)
    (θ_run_and (run_value m ρ hl) (run_frame m ρ hl))

end Cert.KernelIdeal.Launch

end
-- ==== Proof.KernelIdeal.Counts.lean ====
/-
  The row count that a grid point reads is its own entry of the table of row counts.
-/
module

public import proofs.«01_k».proof.Proof.KernelIdeal.Result

@[expose] public section

noncomputable section

namespace Cert.KernelIdeal.Launch

open Cert.KernelIdeal Cert.KernelIdeal.Gen Cert.KernelIdeal.Ring Cert.Proof
open Idealize.ShloMosaic Idealize.ShloMosaic.TcCoe Idealize.ShloMosaic.Tactic Idealize.SL.Sem

variable {F : FTy → Type} [FloatOps F] [∀ e, Nonempty (Elt F e)]
variable (m : (ℓ : Loc nD τ sig) → Buf (Elt F) ℓ) (ρ : Dev nD → PrngReg)

/-- A grid coordinate keeps its value as a word and as an index. -/
theorem index_word : ∀ b : Fin 16, (Scalar.indexCast (BitVec.ofNat 32 b.val)).toNat + 1 * 0 = b.val := by decide

/-- Grid point `i` reads the row count at place `i`. -/
theorem cnt_eq (c : Dev nD) (i : grid0.Coords) :
    cnt m c i = m ((c : Thread nD τ).loc main_arg1) (ValueIdx.ix1 (i 0)) := by
  show m ((c : Thread nD τ).loc main_arg1) ((Rect.unit (s := S16) (k0_off1 i) S1.size (k0_off1_inb i)).emb (Shape.Idx.first _)) = _
  refine congrArg (m ((c : Thread nD τ).loc main_arg1)) ?_
  funext a
  refine Fin.ext ?_
  fin_cases a
  exact index_word (i 0)

/-- What the array of sentences holds at the launch, read whole. -/
theorem rows_eq (c : Dev nD) : xs.view.read (Elt F) (V m c main_arg0) = m ((c : Thread nD τ).loc main_arg0) := by
  rfl

end Cert.KernelIdeal.Launch

end
-- ==== Proof.KernelIdeal.Value.lean ====
/-
  What the kernel computes when floats are extended reals: block `b` at feature `f` is zero if the block has no sentence, and
  otherwise the least upper bound of the entries of its sentences. A bound `z` of the accumulator is followed through the
  chunks: before trip `k` it bounds exactly the entries of the sentences below `256 k`.
-/
module

public import proofs.«01_k».proof.Proof.KernelIdeal.Counts
public import Idealize.ShloMosaic.Lib.Pointwise
public import Idealize.ShloMosaic.PureOps.Ideal.Laws

@[expose] public section

noncomputable section

namespace Cert.KernelIdeal.Value

open Cert.KernelIdeal Cert.KernelIdeal.Gen Cert.KernelIdeal.Ring Cert.Proof
open Idealize.ShloMosaic

/-- The word of minus infinity denotes the least extended real. -/
theorem negInf : FloatOps.ofBits (F := Ideal) .f32 0xFF800000#32 = (⊥ : EReal) := by
  show Ideal.ofBits .f32 0xFF800000#32 = ⊥
  simp [Ideal.ofBits, Ideal.ieee]

/-- The accumulator starts at the least extended real. -/
theorem pay34_apply (y : S1x1x1024.Idx) : (k0_pay34 (F := Ideal) y : EReal) = ⊥ := by
  unfold k0_pay34
  exact negInf

/-- The update by a full chunk takes in the greatest entry of the chunk's column. -/
theorem pay2_apply (X : Vec Ideal S256x1024 .f32) (a : Vec Ideal S1x1x1024 .f32) (f : Fin 1024) :
    (k0_pay2 (F := Ideal) X a (ValueIdx.ix3 0 0 f) : EReal)
      = max (a (ValueIdx.ix3 0 0 f)) (Finset.univ.fold max (⊥ : EReal) fun r : Fin 256 => X (ValueIdx.ix2 r f)) := by
  unfold k0_pay2
  rw [← negInf]
  pointwise
  rfl

/-- The update by a chunk that reaches past the row count takes in the greatest entry of the rows below the count. -/
theorem pay1_apply (n w : BitVec 32) (X : Vec Ideal S256x1024 .f32) (a : Vec Ideal S1x1x1024 .f32) (f : Fin 1024) :
    (k0_pay1 (F := Ideal) n w X a (ValueIdx.ix3 0 0 f) : EReal)
      = max (a (ValueIdx.ix3 0 0 f)) (Finset.univ.fold max (⊥ : EReal) fun r : Fin 256 =>
        if Scalar.cmpi .slt (Scalar.addi (BitVec.ofNat 32 r.val) (Scalar.muli w 256#32)) n = 1#1 then X (ValueIdx.ix2 r f) else ⊥) := by
  unfold k0_pay1
  rw [← negInf]
  pointwise
  rfl

/-- The last step keeps the accumulator where the row count is positive and puts zero elsewhere. -/
theorem pay13_apply (n : BitVec 32) (a : Vec Ideal S1x1x1024 .f32) (y : S1x1x1024.Idx) :
    (k0_pay13 (F := Ideal) n a y : EReal) = if Scalar.cmpi .sgt n 0#32 = 1#1 then a y else 0 := by
  unfold k0_pay13
  pointwise
  rfl

/-- The word of row `256 k + r` is below the row count exactly where the row is. -/
theorem row_lt_iff (n : BitVec 32) (k : ℕ) (hk : k < 16) (r : Fin 256) :
    Scalar.cmpi .slt (Scalar.addi (BitVec.ofNat 32 r.val) (Scalar.muli (BitVec.ofNat 32 k) 256#32)) n = 1#1
      ↔ ((256 * k + r.val : ℕ) : ℤ) < n.toInt := by
  have hw : Scalar.addi (BitVec.ofNat 32 r.val) (Scalar.muli (BitVec.ofNat 32 k) 256#32) = BitVec.ofNat 32 (256 * k + r.val) := by
    apply BitVec.eq_of_toNat_eq
    simp only [Scalar.addi, Scalar.muli, IntOp.addi, IntOp.muli, BitVec.toNat_add, BitVec.toNat_mul, BitVec.toNat_ofNat]
    have := r.isLt
    omega
  rw [hw, Words.slt_iff, Words.toInt_ofNat_small (by have := r.isLt; omega)]

/-- Chunk `k` reaches past the row count exactly where the count is below `256 (k + 1)`. -/
theorem past_iff (n : BitVec 32) (k : ℕ) (hk : k < 16) :
    past n (BitVec.ofNat 32 k) = 1#1 ↔ n.toInt < ((256 * (k + 1) : ℕ) : ℤ) := by
  have hw : Scalar.muli (Scalar.addi (BitVec.ofNat 32 k) 1#32) 256#32 = BitVec.ofNat 32 (256 * (k + 1)) := by
    apply BitVec.eq_of_toNat_eq
    simp only [Scalar.addi, Scalar.muli, IntOp.addi, IntOp.muli, BitVec.toNat_add, BitVec.toNat_mul, BitVec.toNat_ofNat]
    omega
  unfold past
  rw [hw, Words.sgt_iff, Words.toInt_ofNat_small (by omega)]

/-- One trip's update is bounded by `z` exactly where the accumulator is and every row of the chunk below the row count is:
    whether or not the chunk reaches past the count. -/
theorem step_le (i : grid0.Coords) (X : S16x4096x1024.Idx → Elt Ideal .f32) (n : BitVec 32) (k : ℕ) (hk : k < 16) (f : Fin 1024) (z : EReal) :
    (acc (F := Ideal) i X n (k + 1) (ValueIdx.ix3 0 0 f) : EReal) ≤ z
      ↔ (acc (F := Ideal) i X n k (ValueIdx.ix3 0 0 f) : EReal) ≤ z
        ∧ ∀ r : Fin 256, ((256 * k + r.val : ℕ) : ℤ) < n.toInt → (chunkVal (F := Ideal) i X k (ValueIdx.ix2 r f) : EReal) ≤ z := by
  by_cases hp : past n (BitVec.ofNat 32 k) = 1#1
  · rw [acc, if_pos hp, pay1_apply, max_le_iff, Finset.fold_max_le]
    refine and_congr_right fun _ => ⟨fun h r hr => ?_, fun h => ⟨bot_le, fun r _ => ?_⟩⟩
    · have := h.2 r (Finset.mem_univ r)
      rwa [if_pos ((row_lt_iff n k hk r).2 hr)] at this
    · split
      · exact h r ((row_lt_iff n k hk r).1 ‹_›)
      · exact bot_le
  · rw [acc, if_neg hp, pay2_apply, max_le_iff, Finset.fold_max_le]
    rw [past_iff n k hk] at hp
    refine and_congr_right fun _ => ⟨fun h r hr => h.2 r (Finset.mem_univ r), fun h => ⟨bot_le, fun r _ => h r ?_⟩⟩
    have := r.isLt
    omega

/-- Before trip `k` the accumulator is bounded by `z` exactly where every entry of a sentence below `256 k` and below the row
    count is. -/
theorem acc_le (i : grid0.Coords) (X : S16x4096x1024.Idx → Elt Ideal .f32) (n : BitVec 32) (f : Fin 1024) (z : EReal) (k : ℕ) (hk : k ≤ 16) :
    (acc (F := Ideal) i X n k (ValueIdx.ix3 0 0 f) : EReal) ≤ z
      ↔ ∀ t : Fin 4096, t.val < 256 * k → (t.val : ℤ) < n.toInt → (X (ValueIdx.ix3 (n0 := 16) (i 0) t f) : EReal) ≤ z := by
  induction k with
  | zero =>
    rw [acc, pay34_apply]
    exact ⟨fun _ t ht => absurd ht (by omega), fun _ => bot_le⟩
  | succ k ih =>
    rw [step_le i X n k (by omega) f z, ih (by omega)]
    constructor
    · rintro ⟨h, h'⟩ t ht hn
      by_cases hk' : t.val < 256 * k
      · exact h t hk' hn
      · have e : (⟨(256 * k + (t.val - 256 * k)) % 4096, Nat.mod_lt _ (by decide)⟩ : Fin 4096) = t :=
          Fin.ext (by show (256 * k + (t.val - 256 * k)) % 4096 = t.val; have := t.isLt; omega)
        have := h' ⟨t.val - 256 * k, by omega⟩ (by show ((256 * k + (t.val - 256 * k) : ℕ) : ℤ) < _; omega)
        refine le_of_eq_of_le (congrArg (fun t => (X (ValueIdx.ix3 (n0 := 16) (i 0) t f) : EReal)) e.symm) this
    · intro h
      refine ⟨fun t ht hn => h t (by omega) hn, fun r hr => ?_⟩
      have hr' := r.isLt
      refine h ⟨(256 * k + r.val) % 4096, Nat.mod_lt _ (by decide)⟩ ?_ ?_
      · show (256 * k + r.val) % 4096 < _; omega
      · show (((256 * k + r.val) % 4096 : ℕ) : ℤ) < _; omega

/-- The greatest of the entries whose row is below the row count, the least extended real if there is none. -/
def rowMax (x : Fin 4096 → EReal) (n : BitVec 32) : EReal :=
  Finset.univ.fold max ⊥ fun t : Fin 4096 => if (t.val : ℤ) < n.toInt then x t else ⊥

/-- It is bounded by `z` exactly where every entry below the row count is. -/
theorem rowMax_le (x : Fin 4096 → EReal) (n : BitVec 32) (z : EReal) :
    rowMax x n ≤ z ↔ ∀ t : Fin 4096, (t.val : ℤ) < n.toInt → x t ≤ z := by
  rw [rowMax, Finset.fold_max_le]
  refine ⟨fun h t ht => ?_, fun h => ⟨bot_le, fun t _ => ?_⟩⟩
  · have := h.2 t (Finset.mem_univ t)
    rwa [if_pos ht] at this
  · split
    · exact h t ‹_›
    · exact bot_le

/-- After the chunks that the row count occupies, the accumulator is the greatest entry below the row count. -/
theorem acc_eq (i : grid0.Coords) (X : S16x4096x1024.Idx → Elt Ideal .f32) (n : BitVec 32) (hn : n.toInt ≤ 4096) (f : Fin 1024) :
    (acc (F := Ideal) i X n (Words.chunks n) (ValueIdx.ix3 0 0 f) : EReal) = rowMax (fun t => X (ValueIdx.ix3 (n0 := 16) (i 0) t f)) n := by
  refine eq_of_forall_ge_iff fun z => ?_
  rw [acc_le i X n f z _ (Words.chunks_le hn), rowMax_le]
  refine forall_congr' fun t => ⟨fun h ht => h ?_ ht, fun h _ ht => h ht⟩
  unfold Words.chunks
  omega

variable (m : (ℓ : Loc nD τ sig) → Buf (Elt Ideal) ℓ)

/-- The kernel's result at block `b` and feature `f`. -/
theorem result_apply (hl : ∀ c i, (Launch.cnt m c i).toInt ≤ 4096) (c : Dev nD) (b : Fin 16) (f : Fin 1024) :
    (Launch.result m c (ValueIdx.ix2 b f) : EReal)
      = if 0 < ((m ((c.tc : Thread nD τ).loc main_arg1) (ValueIdx.ix1 b) : BitVec 32)).toInt
        then rowMax (fun t => m ((c.tc : Thread nD τ).loc main_arg0) (ValueIdx.ix3 b t f)) (m ((c.tc : Thread nD τ).loc main_arg1) (ValueIdx.ix1 b))
        else 0 := by
  have hc : Launch.cnt m c (Launch.pt b) = m ((c.tc : Thread nD τ).loc main_arg1) (ValueIdx.ix1 b) := Launch.cnt_eq m c (Launch.pt b)
  show (Launch.pooled m c (Launch.pt b) (ValueIdx.ix3 0 0 f) : EReal) = _
  unfold Launch.pooled
  rw [pay13_apply, acc_eq _ _ _ (hl c (Launch.pt b)), hc]
  exact ite_congr (propext (Words.sgt_iff _ _)) (fun _ => rfl) fun _ => rfl

end Cert.KernelIdeal.Value

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_within
public import proofs.«01_k».proof.Proof.Within
public import proofs.«01_k».proof.Proof.Reference
public import proofs.«01_k».proof.Proof.Kernel.Counts
public import proofs.«01_k».proof.Proof.KernelIdeal.Counts
public import proofs.«01_k».proof.Proof.KernelIdeal.Value

@[expose] public section

noncomputable section

namespace Cert.Proof

open Idealize.ShloMosaic Idealize.SL.Sem

/-- Under the precondition no grid point of the kernel reads a row count above 4096. -/
theorem kernel_counts (m : (ℓ : Loc Cert.Kernel.nD Cert.Kernel.τ Cert.Kernel.sig) → Buf (Elt Bits) ℓ)
    (h : Cert.Pre_Kernel (hPre_within := Cert.Pre_within.Gen.facts) m) (c : Dev Cert.Kernel.nD) (i : Cert.Kernel.grid0.Coords) :
    (Cert.Kernel.Launch.cnt m c i).toInt ≤ 4096 := by
  rw [Cert.Kernel.Launch.cnt_eq]
  exact counts_le _ _ _ (h c) _

/-- Under the precondition no grid point of the idealization reads a row count above 4096. -/
theorem ideal_counts (m : (ℓ : Loc Cert.KernelIdeal.nD Cert.KernelIdeal.τ Cert.KernelIdeal.sig) → Buf (Elt Ideal) ℓ)
    (h : Cert.Pre_KernelIdeal (hPre_within := Cert.Pre_within.Gen.facts) m) (c : Dev Cert.KernelIdeal.nD) (i : Cert.KernelIdeal.grid0.Coords) :
    (Cert.KernelIdeal.Launch.cnt m c i).toInt ≤ 4096 := by
  rw [Cert.KernelIdeal.Launch.cnt_eq]
  exact counts_le _ _ _ (h c) _

/-- The kernel runs, leaves its inputs as they were and every semaphore at zero. -/
theorem kernel_frame : Cert.quiescent_Kernel (hKernel := Cert.Kernel.Gen.facts) (hPre_within := Cert.Pre_within.Gen.facts) :=
  fun m g h => (θ_run _ _ _).mono (fun _ hr => ⟨fun c => (hr.1 c).2, hr.2⟩) (Cert.Kernel.Launch.run m g (kernel_counts m h))

/-- The idealization runs, leaves its inputs as they were and every semaphore at zero. -/
theorem ideal_frame : Cert.quiescent_KernelIdeal (hKernelIdeal := Cert.KernelIdeal.Gen.facts) (hPre_within := Cert.Pre_within.Gen.facts) :=
  fun m g h => (θ_run _ _ _).mono (fun _ hr => ⟨fun c => (hr.1 c).2, hr.2⟩) (Cert.KernelIdeal.Launch.run m g (ideal_counts m h))

/-- The reference runs and leaves its inputs as they were; it has no semaphore. -/
theorem reference_frame : Cert.quiescent_ReferenceIdeal (hReferenceIdeal := Cert.ReferenceIdeal.Gen.facts) :=
  fun m g _ => (θ_run _ _ _).mono (fun _ hr => ⟨fun c => (hr c).2, sem_eq_zero_of_no_sems (by decide) _⟩) (Cert.ReferenceIdeal.Value.run_pooled m g)

/-- The same under the precondition, which it does not need. -/
theorem reference_frame_within : Cert.quiescent_ReferenceIdeal_pre_within (hReferenceIdeal := Cert.ReferenceIdeal.Gen.facts) (hPre_within := Cert.Pre_within.Gen.facts) :=
  fun m g _ => reference_frame m g trivial

/-- Over the extended reals the reference's result, from the kernel's inputs, is the kernel's. -/
theorem values_eq (m : (ℓ : Loc Cert.KernelIdeal.nD Cert.KernelIdeal.τ Cert.KernelIdeal.sig) → Buf (Elt Ideal) ℓ)
    (h : Cert.Pre_KernelIdeal (hPre_within := Cert.Pre_within.Gen.facts) m) (c : Dev Cert.KernelIdeal.nD) :
    Cert.ReferenceIdeal.Value.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = Cert.KernelIdeal.Launch.result m c := by
  funext j
  obtain ⟨b, f, rfl⟩ : ∃ (b : Fin 16) (f : Fin 1024), j = ValueIdx.ix2 b f :=
    ⟨j 0, j 1, by funext a; fin_cases a <;> rfl⟩
  refine (Cert.ReferenceIdeal.Value.pooled_apply _ _ b f).trans ((?_ : _ = _).trans (Cert.KernelIdeal.Value.result_apply m (ideal_counts m h) c b f).symm)
  refine ite_congr (propext (Words.sgt_iff _ _)) (fun _ => ?_) fun _ => rfl
  rw [Cert.KernelIdeal.Value.negInf]
  refine congrArg (fun x => Finset.univ.fold max (⊥ : EReal) x) (funext fun t => ?_)
  refine ite_congr (propext ?_) (fun _ => rfl) fun _ => rfl
  rw [Words.slt_iff, Words.toInt_ofNat_small (by have := t.isLt; omega)]

/-- Over the extended reals the kernel and the reference run and end with equal results. -/
theorem values : Cert.algebraic_KernelIdeal_ReferenceIdeal (hKernelIdeal := Cert.KernelIdeal.Gen.facts) (hReferenceIdeal := Cert.ReferenceIdeal.Gen.facts)
    (hPre_within := Cert.Pre_within.Gen.facts) := by
  intro m g m' g' h ha
  refine ⟨Cert.KernelIdeal.Launch.result m, (θ_run _ _ _).mono (fun _ hr => hr.1) (Cert.KernelIdeal.Launch.run m g (ideal_counts m h)),
    (θ_run _ _ _).mono (fun r hr c => ⟨(hr c).1.trans ?_, (hr c).2⟩) (Cert.ReferenceIdeal.Value.run_pooled m' g')⟩
  rw [(ha c).1, (ha c).2.1]
  exact values_eq m h c

/-- Everything that is claimed. -/
theorem claim : Cert.Claim :=
  ⟨Cert.Kernel.Gen.facts, Cert.KernelIdeal.Gen.facts, Cert.ReferenceIdeal.Gen.facts, Cert.Pre_within.Gen.facts,
    kernel_frame, ideal_frame, reference_frame, reference_frame_within, trivial, values⟩

end Cert.Proof

end
